-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x1024 : Shape := ⟨2, ![1024, 1024]⟩
abbrev S1024x20002 : Shape := ⟨2, ![1024, 20002]⟩
abbrev S1024x256 : Shape := ⟨2, ![1024, 256]⟩
abbrev S256x10000 : Shape := ⟨2, ![256, 10000]⟩
abbrev S1024x64 : Shape := ⟨2, ![1024, 64]⟩
abbrev S64x10000 : Shape := ⟨2, ![64, 10000]⟩
abbrev S_ : Shape := ⟨0, ![]⟩

class Facts : Prop where
  bcast_S_S1x2048x1024 : S_.BroadcastsInDim S1x2048x1024 (![] : Fin 0 → Fin S1x2048x1024.rank)
  bcast_S_S1024x20002 : S_.BroadcastsInDim S1024x20002 (![] : Fin 0 → Fin S1024x20002.rank)
  bcast_S_S1024x256 : S_.BroadcastsInDim S1024x256 (![] : Fin 0 → Fin S1024x256.rank)
  bcast_S_S256x10000 : S_.BroadcastsInDim S256x10000 (![] : Fin 0 → Fin S256x10000.rank)
  bcast_S_S1024x64 : S_.BroadcastsInDim S1024x64 (![] : Fin 0 → Fin S1024x64.rank)
  bcast_S_S64x10000 : S_.BroadcastsInDim S64x10000 (![] : Fin 0 → Fin S64x10000.rank)

variable [Facts]

def fn {F : FTy → Type} [FloatOps F] (main_arg0 : FVec F S1x2048x1024 .f32) (main_arg1 : FVec F S1024x1024 .f32) (main_arg2 : FVec F S1024x20002 .f32) (main_arg3 : FVec F S1024x256 .f32) (main_arg4 : FVec F S256x10000 .f32) (main_arg5 : FVec F S1024x64 .f32) (main_arg6 : FVec F S64x10000 .f32) : IVec S1x2048x1024 1 × IVec S1024x20002 1 × IVec S1024x256 1 × IVec S256x10000 1 × IVec S1024x64 1 × IVec S64x10000 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x20002 .f32 := Host.absf main_arg2
  let main_cst_0 : FVec F S_ .f32 := constant S_ .f32 0x7F800000#32
  let main_v4 : FVec F S1024x20002 .f32 := broadcastInDim S1024x20002 ![] bcast_S_S1024x20002 main_cst_0
  let main_v5 : IVec S1024x20002 1 := cmpf .olt main_v3 main_v4
  let main_v6 : FVec F S1024x256 .f32 := Host.absf main_arg3
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  let main_v9 : FVec F S256x10000 .f32 := Host.absf main_arg4
  let main_cst_2 : FVec F S_ .f32 := constant S_ .f32 0x7F800000#32
  let main_v10 : FVec F S256x10000 .f32 := broadcastInDim S256x10000 ![] bcast_S_S256x10000 main_cst_2
  let main_v11 : IVec S256x10000 1 := cmpf .olt main_v9 main_v10
  let main_v12 : FVec F S1024x64 .f32 := Host.absf main_arg5
  let main_cst_3 : FVec F S_ .f32 := constant S_ .f32 0x7F800000#32
  let main_v13 : FVec F S1024x64 .f32 := broadcastInDim S1024x64 ![] bcast_S_S1024x64 main_cst_3
  let main_v14 : IVec S1024x64 1 := cmpf .olt main_v12 main_v13
  let main_v15 : FVec F S64x10000 .f32 := Host.absf main_arg6
  let main_cst_4 : FVec F S_ .f32 := constant S_ .f32 0x7F800000#32
  let main_v16 : FVec F S64x10000 .f32 := broadcastInDim S64x10000 ![] bcast_S_S64x10000 main_cst_4
  let main_v17 : IVec S64x10000 1 := cmpf .olt main_v15 main_v16
  (main_v2, main_v5, main_v8, main_v11, main_v14, main_v17)
-- ==== Kernel.lean ====
abbrev S1x2048x1024 : Shape := ⟨3, ![1, 2048, 1024]⟩
abbrev S1024x1024 : Shape := ⟨2, ![1024, 1024]⟩
abbrev S1024x20002 : Shape := ⟨2, ![1024, 20002]⟩
abbrev S1024x256 : Shape := ⟨2, ![1024, 256]⟩
abbrev S256x10000 : Shape := ⟨2, ![256, 10000]⟩
abbrev S1024x64 : Shape := ⟨2, ![1024, 64]⟩
abbrev S64x10000 : Shape := ⟨2, ![64, 10000]⟩
abbrev S2048x1024 : Shape := ⟨2, ![2048, 1024]⟩
abbrev S_ : Shape := ⟨0, ![]⟩
abbrev S1024x20480 : Shape := ⟨2, ![1024, 20480]⟩
abbrev S256x10240 : Shape := ⟨2, ![256, 10240]⟩
abbrev S64x10240 : Shape := ⟨2, ![64, 10240]⟩
abbrev S2048x40000 : Shape := ⟨2, ![2048, 40000]⟩
abbrev S512x1024 : Shape := ⟨2, ![512, 1024]⟩
abbrev S256x1024 : Shape := ⟨2, ![256, 1024]⟩
abbrev S64x1024 : Shape := ⟨2, ![64, 1024]⟩
abbrev S512x41728 : Shape := ⟨2, ![512, 41728]⟩
abbrev S512x256 : Shape := ⟨2, ![512, 256]⟩
abbrev S512x64 : Shape := ⟨2, ![512, 64]⟩
abbrev S512x384 : Shape := ⟨2, ![512, 384]⟩
abbrev S512x8 : Shape := ⟨2, ![512, 8]⟩
abbrev S512x128 : Shape := ⟨2, ![512, 128]⟩
abbrev S512 : Shape := ⟨1, ![512]⟩
abbrev S512x1 : Shape := ⟨2, ![512, 1]⟩
abbrev S512x1152 : Shape := ⟨2, ![512, 1152]⟩
abbrev S1x2048x40000 : Shape := ⟨3, ![1, 2048, 40000]⟩

abbrev nBuf : Space → Nat
  | .hbm => 25
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x20002, .f32⟩
  | .hbm, ⟨3, _⟩ => ⟨S1024x256, .f32⟩
  | .hbm, ⟨4, _⟩ => ⟨S256x10000, .f32⟩
  | .hbm, ⟨5, _⟩ => ⟨S1024x64, .f32⟩
  | .hbm, ⟨6, _⟩ => ⟨S64x10000, .f32⟩
  | .hbm, ⟨7, _⟩ => ⟨S2048x1024, .f32⟩
  | .hbm, ⟨8, _⟩ => ⟨S2048x1024, .bf16⟩
  | .hbm, ⟨9, _⟩ => ⟨S1024x20002, .bf16⟩
  | .hbm, ⟨10, _⟩ => ⟨S_, .i32⟩
  | .hbm, ⟨11, _⟩ => ⟨S_, .bf16⟩
  | .hbm, ⟨12, _⟩ => ⟨S1024x20480, .bf16⟩
  | .hbm, ⟨13, _⟩ => ⟨S1024x256, .bf16⟩
  | .hbm, ⟨14, _⟩ => ⟨S256x10000, .bf16⟩
  | .hbm, ⟨15, _⟩ => ⟨S_, .i32⟩
  | .hbm, ⟨16, _⟩ => ⟨S_, .bf16⟩
  | .hbm, ⟨17, _⟩ => ⟨S256x10240, .bf16⟩
  | .hbm, ⟨18, _⟩ => ⟨S1024x64, .bf16⟩
  | .hbm, ⟨19, _⟩ => ⟨S64x10000, .bf16⟩
  | .hbm, ⟨20, _⟩ => ⟨S_, .i32⟩
  | .hbm, ⟨21, _⟩ => ⟨S_, .bf16⟩
  | .hbm, ⟨22, _⟩ => ⟨S64x10240, .bf16⟩
  | .hbm, ⟨23, _⟩ => ⟨S2048x40000, .f32⟩
  | .hbm, ⟨24, _⟩ => ⟨S1x2048x40000, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S256x1024, .bf16⟩
  | .local _ .vmem, ⟨6, _⟩ => ⟨S256x1024, .bf16⟩
  | .local _ .vmem, ⟨7, _⟩ => ⟨S1024x64, .bf16⟩
  | .local _ .vmem, ⟨8, _⟩ => ⟨S64x1024, .bf16⟩
  | .local _ .vmem, ⟨9, _⟩ => ⟨S64x1024, .bf16⟩
  | .local _ .vmem, ⟨10, _⟩ => ⟨S512x1024, .f32⟩
  | .local _ .vmem, ⟨11, _⟩ => ⟨S512x1024, .f32⟩
  | .local _ .vmem, ⟨12, _⟩ => ⟨S512x41728, .bf16⟩
  | .local _ .vmem, ⟨13, _⟩ => ⟨S512x256, .bf16⟩
  | .local _ .vmem, ⟨14, _⟩ => ⟨S512x64, .bf16⟩
  | .local _ .vmem, ⟨15, _⟩ => ⟨S512x384, .f32⟩
  | .local _ .vmem, ⟨16, _⟩ => ⟨S512x8, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 80], ![false, false]⟩

def k0_cond2 (i : grid0.Coords) : BitVec 1 :=
  let arg1 : BitVec 32 := BitVec.ofNat 32 (i 1).val
  let c20_i32 : BitVec 32 := 20#32
  let v3 : BitVec 1 := Scalar.cmpi .slt arg1 c20_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_26 : Index := 0#32
  let arg1 : BitVec 32 := BitVec.ofNat 32 (i 1).val
  let c1024_i32_25 : BitVec 32 := 1024#32
  let v52 : BitVec 32 := Scalar.muli arg1 c1024_i32_25
  let v53 : Index := Scalar.indexCast v52
  ![0, v53.toNat]
def k0_cond5 (i : grid0.Coords) : BitVec 1 :=
  let arg1 : BitVec 32 := BitVec.ofNat 32 (i 1).val
  let c20_i32_4 : BitVec 32 := 20#32
  let v9 : BitVec 1 := Scalar.cmpi .sge arg1 c20_i32_4
  let c30_i32 : BitVec 32 := 30#32
  let v10 : BitVec 1 := Scalar.cmpi .slt arg1 c30_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let c0_27 : Index := 0#32
  let c20480_i32 : BitVec 32 := 20480#32
  let arg1 : BitVec 32 := BitVec.ofNat 32 (i 1).val
  let c20_i32_22 : BitVec 32 := 20#32
  let v45 : BitVec 32 := Scalar.subi arg1 c20_i32_22
  let c1024_i32_26 : BitVec 32 := 1024#32
  let v52 : BitVec 32 := Scalar.muli v45 c1024_i32_26
  let v53 : BitVec 32 := Scalar.addi c20480_i32 v52
  let v54 : Index := Scalar.indexCast v53
  ![0, v54.toNat]
def k0_cond7 (i : grid0.Coords) : BitVec 1 :=
  let arg1 : BitVec 32 := BitVec.ofNat 32 (i 1).val
  let c30_i32_8 : BitVec 32 := 30#32
  let v17 : BitVec 1 := Scalar.cmpi .sge arg1 c30_i32_8
  let c40_i32 : BitVec 32 := 40#32
  let v18 : BitVec 1 := Scalar.cmpi .slt arg1 c40_i32
  let v19 : BitVec 1 := Scalar.andi v17 v18
  let v20 : BitVec 32 := Scalar.extui v19
  let c0_i32_9 : BitVec 32 := 0#32
  let v21 : BitVec 1 := Scalar.cmpi .ne v20 c0_i32_9
  v21

def k0_off3 (i : grid0.Coords) : Fin 2 → Nat :=
  let c0_27 : Index := 0#32
  let c30720_i32 : BitVec 32 := 30720#32
  let arg1 : BitVec 32 := BitVec.ofNat 32 (i 1).val
  let c20_i32_22 : BitVec 32 := 20#32
  let v45 : BitVec 32 := Scalar.subi arg1 c20_i32_22
  let c10_i32 : BitVec 32 := 10#32
  let v46 : BitVec 32 := Scalar.subi v45 c10_i32
  let c1024_i32_26 : BitVec 32 := 1024#32
  let v53 : BitVec 32 := Scalar.muli v46 c1024_i32_26
  let v54 : BitVec 32 := Scalar.addi c30720_i32 v53
  let v55 : Index := Scalar.indexCast v54
  ![0, v55.toNat]
def k0_cond9 (i : grid0.Coords) : BitVec 1 :=
  let arg1 : BitVec 32 := BitVec.ofNat 32 (i 1).val
  let c40_i32_13 : BitVec 32 := 40#32
  let v27 : BitVec 1 := Scalar.cmpi .sge arg1 c40_i32_13
  let c40_i32_12 : BitVec 32 := 40#32
  let v25 : BitVec 32 := Scalar.subi arg1 c40_i32_12
  let c19_i32 : BitVec 32 := 19#32
  let v28 : BitVec 1 := Scalar.cmpi .slt v25 c19_i32
  let v29 : BitVec 1 := Scalar.andi v27 v28
  let v30 : BitVec 32 := Scalar.extui v29
  let c0_i32_14 : BitVec 32 := 0#32
  let v31 : BitVec 1 := Scalar.cmpi .ne v30 c0_i32_14
  v31

def k0_off4 (i : grid0.Coords) : Fin 2 → Nat :=
  let c0 : Index := 0#32
  let arg1 : BitVec 32 := BitVec.ofNat 32 (i 1).val
  let c40_i32_12 : BitVec 32 := 40#32
  let v25 : BitVec 32 := Scalar.subi arg1 c40_i32_12
  let c1024_i32 : BitVec 32 := 1024#32
  let v26 : BitVec 32 := Scalar.muli v25 c1024_i32
  let v45 : Index := Scalar.indexCast v26
  ![0, v45.toNat]
def k0_cond10 (i : grid0.Coords) : BitVec 1 :=
  let arg1 : BitVec 32 := BitVec.ofNat 32 (i 1).val
  let c40_i32_12 : BitVec 32 := 40#32
  let v25 : BitVec 32 := Scalar.subi arg1 c40_i32_12
  let c19_i32_15 : BitVec 32 := 19#32
  let v32 : BitVec 1 := Scalar.cmpi .sgt v25 c19_i32_15
  let c29_i32 : BitVec 32 := 29#32
  let v33 : BitVec 1 := Scalar.cmpi .slt v25 c29_i32
  let v34 : BitVec 1 := Scalar.andi v32 v33
  let v35 : BitVec 32 := Scalar.extui v34
  let c0_i32_16 : BitVec 32 := 0#32
  let v36 : BitVec 1 := Scalar.cmpi .ne v35 c0_i32_16
  v36

def k0_off5 (i : grid0.Coords) : Fin 2 → Nat :=
  let c0 : Index := 0#32
  let arg1 : BitVec 32 := BitVec.ofNat 32 (i 1).val
  let c40_i32_12 : BitVec 32 := 40#32
  let v25 : BitVec 32 := Scalar.subi arg1 c40_i32_12
  let c1024_i32 : BitVec 32 := 1024#32
  let v26 : BitVec 32 := Scalar.muli v25 c1024_i32
  let c384_i32 : BitVec 32 := 384#32
  let v45 : BitVec 32 := Scalar.addi v26 c384_i32
  let v46 : Index := Scalar.indexCast v45
  ![0, v46.toNat]
def k0_cond11 (i : grid0.Coords) : BitVec 1 :=
  let arg1 : BitVec 32 := BitVec.ofNat 32 (i 1).val
  let c40_i32_12 : BitVec 32 := 40#32
  let v25 : BitVec 32 := Scalar.subi arg1 c40_i32_12
  let c29_i32_17 : BitVec 32 := 29#32
  let v37 : BitVec 1 := Scalar.cmpi .sgt v25 c29_i32_17
  let v38 : BitVec 32 := Scalar.extui v37
  let c0_i32_18 : BitVec 32 := 0#32
  let v39 : BitVec 1 := Scalar.cmpi .ne v38 c0_i32_18
  v39

def k0_off6 (i : grid0.Coords) : Fin 2 → Nat :=
  let c0 : Index := 0#32
  let arg1 : BitVec 32 := BitVec.ofNat 32 (i 1).val
  let c40_i32_12 : BitVec 32 := 40#32
  let v25 : BitVec 32 := Scalar.subi arg1 c40_i32_12
  let c1024_i32 : BitVec 32 := 1024#32
  let v26 : BitVec 32 := Scalar.muli v25 c1024_i32
  let c640_i32 : BitVec 32 := 640#32
  let v45 : BitVec 32 := Scalar.addi v26 c640_i32
  let v46 : Index := Scalar.indexCast v45
  ![0, v46.toNat]
def k0_cond12 (i : grid0.Coords) : BitVec 1 :=
  let arg1 : BitVec 32 := BitVec.ofNat 32 (i 1).val
  let c40_i32_12 : BitVec 32 := 40#32
  let v25 : BitVec 32 := Scalar.subi arg1 c40_i32_12
  let c19_i32_19 : BitVec 32 := 19#32
  let v40 : BitVec 1 := Scalar.cmpi .eq v25 c19_i32_19
  let c29_i32_20 : BitVec 32 := 29#32
  let v41 : BitVec 1 := Scalar.cmpi .eq v25 c29_i32_20
  let v42 : BitVec 1 := Scalar.ori v40 v41
  let v43 : BitVec 32 := Scalar.extui v42
  let c0_i32_21 : BitVec 32 := 0#32
  let v44 : BitVec 1 := Scalar.cmpi .ne v43 c0_i32_21
  v44

def k0_off7 (i : grid0.Coords) : Fin 2 → Nat :=
  let c0 : Index := 0#32
  let arg1 : BitVec 32 := BitVec.ofNat 32 (i 1).val
  let c40_i32_12 : BitVec 32 := 40#32
  let v25 : BitVec 32 := Scalar.subi arg1 c40_i32_12
  let c1024_i32 : BitVec 32 := 1024#32
  let v26 : BitVec 32 := Scalar.muli v25 c1024_i32
  let v48 : Index := Scalar.indexCast v26
  ![0, v48.toNat]
def k0_off8 (i : grid0.Coords) (c384_i32 : BitVec 32) : Fin 2 → Nat :=
  let c0_24 : Index := 0#32
  let arg1 : BitVec 32 := BitVec.ofNat 32 (i 1).val
  let c40_i32_12 : BitVec 32 := 40#32
  let v25 : BitVec 32 := Scalar.subi arg1 c40_i32_12
  let c1024_i32 : BitVec 32 := 1024#32
  let v26 : BitVec 32 := Scalar.muli v25 c1024_i32
  let v54 : BitVec 32 := Scalar.addi v26 c384_i32
  let v55 : Index := Scalar.indexCast v54
  ![0, v55.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.minsi arg1 c19_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c9_i32 : BitVec 32 := 9#32
  let v1 : BitVec 32 := Scalar.maxsi c0_i32 v0
  let v2 : BitVec 32 := Scalar.minsi c9_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c10_i32 : BitVec 32 := 10#32
  let v1 : BitVec 32 := Scalar.subi v0 c10_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![c0_i32_0.toNat, v3.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.subi arg1 c40_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x2048x1024 : Shape := ⟨3, ![1, 2048, 1024]⟩
abbrev S1024x1024 : Shape := ⟨2, ![1024, 1024]⟩
abbrev S1024x20002 : Shape := ⟨2, ![1024, 20002]⟩
abbrev S1024x256 : Shape := ⟨2, ![1024, 256]⟩
abbrev S256x10000 : Shape := ⟨2, ![256, 10000]⟩
abbrev S1024x64 : Shape := ⟨2, ![1024, 64]⟩
abbrev S64x10000 : Shape := ⟨2, ![64, 10000]⟩
abbrev S1x2048x20002 : Shape := ⟨3, ![1, 2048, 20002]⟩
abbrev S_ : Shape := ⟨0, ![]⟩
abbrev S1x2048 : Shape := ⟨2, ![1, 2048]⟩
abbrev S1x2048x1 : Shape := ⟨3, ![1, 2048, 1]⟩
abbrev S1x2048x20000 : Shape := ⟨3, ![1, 2048, 20000]⟩
abbrev S1x2048x256 : Shape := ⟨3, ![1, 2048, 256]⟩
abbrev S1x2048x10000 : Shape := ⟨3, ![1, 2048, 10000]⟩
abbrev S1x2048x64 : Shape := ⟨3, ![1, 2048, 64]⟩
abbrev S1x2048x40000 : Shape := ⟨3, ![1, 2048, 40000]⟩

abbrev nBuf : Space → Nat
  | .hbm => 62
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x20002, .f32⟩
  | .hbm, ⟨3, _⟩ => ⟨S1024x256, .f32⟩
  | .hbm, ⟨4, _⟩ => ⟨S256x10000, .f32⟩
  | .hbm, ⟨5, _⟩ => ⟨S1024x64, .f32⟩
  | .hbm, ⟨6, _⟩ => ⟨S64x10000, .f32⟩
  | .hbm, ⟨7, _⟩ => ⟨S1x2048x20002, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048x1, .f32⟩
  | .hbm, ⟨14, _⟩ => ⟨S1x2048x20002, .f32⟩
  | .hbm, ⟨15, _⟩ => ⟨S1x2048x20002, .f32⟩
  | .hbm, ⟨16, _⟩ => ⟨S1x2048x20002, .f32⟩
  | .hbm, ⟨17, _⟩ => ⟨S_, .f32⟩
  | .hbm, ⟨18, _⟩ => ⟨S1x2048, .f32⟩
  | .hbm, ⟨19, _⟩ => ⟨S1x2048x1, .f32⟩
  | .hbm, ⟨20, _⟩ => ⟨S1x2048x20002, .f32⟩
  | .hbm, ⟨21, _⟩ => ⟨S1x2048x20002, .f32⟩
  | .hbm, ⟨22, _⟩ => ⟨S1x2048x20000, .f32⟩
  | .hbm, ⟨23, _⟩ => ⟨S1x2048x256, .f32⟩
  | .hbm, ⟨24, _⟩ => ⟨S1x2048x10000, .f32⟩
  | .hbm, ⟨25, _⟩ => ⟨S_, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048x1, .f32⟩
  | .hbm, ⟨31, _⟩ => ⟨S1x2048x10000, .f32⟩
  | .hbm, ⟨32, _⟩ => ⟨S1x2048x10000, .f32⟩
  | .hbm, ⟨33, _⟩ => ⟨S1x2048x10000, .f32⟩
  | .hbm, ⟨34, _⟩ => ⟨S_, .f32⟩
  | .hbm, ⟨35, _⟩ => ⟨S1x2048, .f32⟩
  | .hbm, ⟨36, _⟩ => ⟨S1x2048x1, .f32⟩
  | .hbm, ⟨37, _⟩ => ⟨S1x2048x10000, .f32⟩
  | .hbm, ⟨38, _⟩ => ⟨S1x2048x10000, .f32⟩
  | .hbm, ⟨39, _⟩ => ⟨S1x2048x1, .f32⟩
  | .hbm, ⟨40, _⟩ => ⟨S1x2048x10000, .f32⟩
  | .hbm, ⟨41, _⟩ => ⟨S1x2048x10000, .f32⟩
  | .hbm, ⟨42, _⟩ => ⟨S1x2048x64, .f32⟩
  | .hbm, ⟨43, _⟩ => ⟨S1x2048x10000, .f32⟩
  | .hbm, ⟨44, _⟩ => ⟨S_, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S1x2048x1, .f32⟩
  | .hbm, ⟨50, _⟩ => ⟨S1x2048x10000, .f32⟩
  | .hbm, ⟨51, _⟩ => ⟨S1x2048x10000, .f32⟩
  | .hbm, ⟨52, _⟩ => ⟨S1x2048x10000, .f32⟩
  | .hbm, ⟨53, _⟩ => ⟨S_, .f32⟩
  | .hbm, ⟨54, _⟩ => ⟨S1x2048, .f32⟩
  | .hbm, ⟨55, _⟩ => ⟨S1x2048x1, .f32⟩
  | .hbm, ⟨56, _⟩ => ⟨S1x2048x10000, .f32⟩
  | .hbm, ⟨57, _⟩ => ⟨S1x2048x10000, .f32⟩
  | .hbm, ⟨58, _⟩ => ⟨S1x2048x1, .f32⟩
  | .hbm, ⟨59, _⟩ => ⟨S1x2048x10000, .f32⟩
  | .hbm, ⟨60, _⟩ => ⟨S1x2048x10000, .f32⟩
  | .hbm, ⟨61, _⟩ => ⟨S1x2048x40000, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Body.lean ====
/- The kernel's body run once at a symbolic grid point: what it leaves in each of its buffers. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body run once at a symbolic grid point, every guarded region taken both ways: from the thirteen buffers held
    whole at any contents, the body returns with the six inputs as they were and the output block and the five
    scratch buffers at the contents `o` (each a nest of "if the region's condition holds, the buffer overwritten by
    the region's stores, else as it was"), which the run itself finds. -/
def run (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x64 .bf16) (harg6 : arg6.IsWhole) (arg7 : Memref sig .tc .vmem S64x1024 .bf16) (harg7 : arg7.IsWhole) (arg8 : Memref sig .tc .vmem S512x1024 .f32) (harg8 : arg8.IsWhole) (arg9 : Memref sig .tc .vmem S512x41728 .bf16) (harg9 : arg9.IsWhole) (arg10 : Memref sig .tc .vmem S512x256 .bf16) (harg10 : arg10.IsWhole) (arg11 : Memref sig .tc .vmem S512x64 .bf16) (harg11 : arg11.IsWhole) (arg12 : Memref sig .tc .vmem S512x384 .f32) (harg12 : arg12.IsWhole) (arg13 : Memref sig .tc .vmem S512x8 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (f11 : Bf (F := F) c arg11) (f12 : Bf (F := F) c arg12) (f13 : Bf (F := F) c arg13) :
    { o : Bf (F := F) c arg8 × Bf (F := F) c arg9 × Bf (F := F) c arg10 × Bf (F := F) c arg11 × Bf (F := F) c arg12 × Bf (F := F) c arg13 //
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13)
    ⊢ wp frame (wpE (defs₀ (F := F)) Variants.none c none) Set.univ
        (cc0__body i arg2 harg2 arg3 harg3 arg4 harg4 arg5 harg5 arg6 harg6 arg7 harg7 arg8 harg8 arg9 harg9 arg10 harg10 arg11 harg11 arg12 harg12 arg13 harg13)
        (fun _ => iprop(pt c arg2 f2 ∗ pt c arg3 f3 ∗ pt c arg4 f4 ∗ pt c arg5 f5 ∗ pt c arg6 f6 ∗ pt c arg7 f7 ∗ pt c arg8 o.1 ∗ pt c arg9 o.2.1 ∗ pt c arg10 o.2.2.1 ∗ pt c arg11 o.2.2.2.1 ∗ pt c arg12 o.2.2.2.2.1 ∗ pt c arg13 o.2.2.2.2.2)) } := by
  refine ⟨(?_, ?_, ?_, ?_, ?_, ?_), ?run⟩
  case run =>
  iintro ⟨H2, H3, H4, H5, H6, H7, H8, H9, H10, H11, H12, H13⟩
  rw [cc0__body_eq_skeleton]
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The run over what the buffers read -/

variable [∀ e, Nonempty (Elt F e)]

/-- Memref `M` owned on core `c`, whole share, reading `X`. -/
abbrev ow (c : Dev nD) {sp : Space} {S : Shape} {e : EltTy} (M : Memref sig .tc sp S e) (X : S.Idx → Elt F e) : sProp 𝕄 :=
  owns (c : Thread nD τ) M fullShare X

/-- A whole buffer owned at the contents `X` is its points-to at the canonical buffer that reads `X`. -/
theorem owns_pt (c : Dev nD) {sp : Space} {S : Shape} {e : EltTy} (M : Memref sig .tc sp S e) (hM : M.IsWhole) (X : S.Idx → Elt F e) :
    ow c M X = pt c M (M.view.rep X) := by
  rw [ow, owns_eq_rep, hM.set_eq_univ]

/-- A whole buffer owned at `X` gives its points-to at the canonical buffer that reads `X`. -/
theorem ow_pt (c : Dev nD) {sp : Space} {S : Shape} {e : EltTy} (M : Memref sig .tc sp S e) (hM : M.IsWhole) (X : S.Idx → Elt F e) :
    ow c M X ⊢ pt c M (M.view.rep X) := by rw [owns_pt c M hM X]

/-- And conversely. -/
theorem rep_ow (c : Dev nD) {sp : Space} {S : Shape} {e : EltTy} (M : Memref sig .tc sp S e) (hM : M.IsWhole) (X : S.Idx → Elt F e) :
    pt c M (M.view.rep X) ⊢ ow c M X := by rw [owns_pt c M hM X]

/-- A whole buffer's points-to at `f` is the buffer owned at what `f` reads. -/
theorem pt_owns (c : Dev nD) {sp : Space} {S : Shape} {e : EltTy} (M : Memref sig .tc sp S e) (hM : M.IsWhole) (f : Bf (F := F) c M) :
    pt c M f ⊢ ow c M (M.view.read (Elt F) f) := by
  unfold ow owns
  rw [hM.set_eq_univ]
  iintro H
  iexists f
  isplitr; · ipureintro; rfl
  iexact H

/-- The body at point `i`, from the twelve buffers owned at any contents: the inputs come back as they were, the output
    block and the scratch at what `run` leaves in them. -/
theorem body_wp (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x64 .bf16) (harg6 : arg6.IsWhole) (arg7 : Memref sig .tc .vmem S64x1024 .bf16) (harg7 : arg7.IsWhole) (arg8 : Memref sig .tc .vmem S512x1024 .f32) (harg8 : arg8.IsWhole) (arg9 : Memref sig .tc .vmem S512x41728 .bf16) (harg9 : arg9.IsWhole) (arg10 : Memref sig .tc .vmem S512x256 .bf16) (harg10 : arg10.IsWhole) (arg11 : Memref sig .tc .vmem S512x64 .bf16) (harg11 : arg11.IsWhole) (arg12 : Memref sig .tc .vmem S512x384 .f32) (harg12 : arg12.IsWhole) (arg13 : Memref sig .tc .vmem S512x8 .f32) (harg13 : arg13.IsWhole)
    (X2 : Vec F S512x1024 .bf16) (X3 : Vec F S1024x1024 .bf16) (X4 : Vec F S1024x256 .bf16) (X5 : Vec F S256x1024 .bf16) (X6 : Vec F S1024x64 .bf16) (X7 : Vec F S64x1024 .bf16) (X8 : Vec F S512x1024 .f32) (X9 : Vec F S512x41728 .bf16) (X10 : Vec F S512x256 .bf16) (X11 : Vec F S512x64 .bf16) (X12 : Vec F S512x384 .f32) (X13 : Vec F S512x8 .f32) :
    iprop(ow c arg2 X2 ∗ ow c arg3 X3 ∗ ow c arg4 X4 ∗ ow c arg5 X5 ∗ ow c arg6 X6 ∗ ow c arg7 X7 ∗ ow c arg8 X8 ∗ ow c arg9 X9 ∗ ow c arg10 X10 ∗ ow c arg11 X11 ∗ ow c arg12 X12 ∗ ow c arg13 X13)
    ⊢ wp frame (wpE (defs₀ (F := F)) Variants.none c none) Set.univ
        (cc0__body i arg2 harg2 arg3 harg3 arg4 harg4 arg5 harg5 arg6 harg6 arg7 harg7 arg8 harg8 arg9 harg9 arg10 harg10 arg11 harg11 arg12 harg12 arg13 harg13)
        (fun _ => iprop(ow c arg2 X2 ∗ ow c arg3 X3 ∗ ow c arg4 X4 ∗ ow c arg5 X5 ∗ ow c arg6 X6 ∗ ow c arg7 X7 ∗ ow c arg8 (arg8.view.read (Elt F) (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)).1.1) ∗ ow c arg9 (arg9.view.read (Elt F) (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)).1.2.1) ∗ ow c arg10 (arg10.view.read (Elt F) (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)).1.2.2.1) ∗ ow c arg11 (arg11.view.read (Elt F) (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)).1.2.2.2.1) ∗ ow c arg12 (arg12.view.read (Elt F) (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)).1.2.2.2.2.1) ∗ ow c arg13 (arg13.view.read (Elt F) (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)).1.2.2.2.2.2))) := by
  generalize (run c i arg2 harg2 arg3 harg3 arg4 harg4 arg5 harg5 arg6 harg6 arg7 harg7 arg8 harg8 arg9 harg9 arg10 harg10 arg11 harg11 arg12 harg12 arg13 harg13 (arg2.view.rep X2) (arg3.view.rep X3) (arg4.view.rep X4) (arg5.view.rep X5) (arg6.view.rep X6) (arg7.view.rep X7) (arg8.view.rep X8) (arg9.view.rep X9) (arg10.view.rep X10) (arg11.view.rep X11) (arg12.view.rep X12) (arg13.view.rep X13)) = o
  obtain ⟨⟨o8, o9, o10, o11, o12, o13⟩, ho⟩ := o
  refine triple_restated ho rfl ?_ fun _ => ?_
  · iintro ⟨H2, H3, H4, H5, H6, H7, H8, H9, H10, H11, H12, H13⟩
    isplitl [H2]; · iapply (ow_pt c arg2 harg2 X2); iexact H2
    isplitl [H3]; · iapply (ow_pt c arg3 harg3 X3); iexact H3
    isplitl [H4]; · iapply (ow_pt c arg4 harg4 X4); iexact H4
    isplitl [H5]; · iapply (ow_pt c arg5 harg5 X5); iexact H5
    isplitl [H6]; · iapply (ow_pt c arg6 harg6 X6); iexact H6
    isplitl [H7]; · iapply (ow_pt c arg7 harg7 X7); iexact H7
    isplitl [H8]; · iapply (ow_pt c arg8 harg8 X8); iexact H8
    isplitl [H9]; · iapply (ow_pt c arg9 harg9 X9); iexact H9
    isplitl [H10]; · iapply (ow_pt c arg10 harg10 X10); iexact H10
    isplitl [H11]; · iapply (ow_pt c arg11 harg11 X11); iexact H11
    isplitl [H12]; · iapply (ow_pt c arg12 harg12 X12); iexact H12
    iapply (ow_pt c arg13 harg13 X13); iexact H13
  · iintro ⟨H2, H3, H4, H5, H6, H7, H8, H9, H10, H11, H12, H13⟩
    isplitl [H2]; · iapply (rep_ow c arg2 harg2 X2); iexact H2
    isplitl [H3]; · iapply (rep_ow c arg3 harg3 X3); iexact H3
    isplitl [H4]; · iapply (rep_ow c arg4 harg4 X4); iexact H4
    isplitl [H5]; · iapply (rep_ow c arg5 harg5 X5); iexact H5
    isplitl [H6]; · iapply (rep_ow c arg6 harg6 X6); iexact H6
    isplitl [H7]; · iapply (rep_ow c arg7 harg7 X7); iexact H7
    isplitl [H8]; · iapply (pt_owns c arg8 harg8 o8); iexact H8
    isplitl [H9]; · iapply (pt_owns c arg9 harg9 o9); iexact H9
    isplitl [H10]; · iapply (pt_owns c arg10 harg10 o10); iexact H10
    isplitl [H11]; · iapply (pt_owns c arg11 harg11 o11); iexact H11
    isplitl [H12]; · iapply (pt_owns c arg12 harg12 o12); iexact H12
    iapply (pt_owns c arg13 harg13 o13); iexact H13

end Cert.KernelIdeal.Body

end
-- ==== Proof.Frame.lean ====
/- The kernel's run around its one region, at any value instance: the program data of the pipeline (what each input
   window holds, what the scratch buffers hold between two grid points), the body obligation when nothing is said of the
   output, and the frame: every argument array ends as it began and every semaphore counter at zero. -/
module

public import proofs.«01_k».proof.Proof.Body
public import Idealize.ShloMosaic.Lib.Pipeline.Frame
public import Idealize.ShloMosaic.Lib.Pipeline.FrameSuffix
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.KernelIdeal.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The scratch buffers -/

/-- The five scratch buffers: the exponentials, the two projected blocks, the lane sums, the row statistics. -/
abbrev scE : Memref sig .tc .vmem S512x41728 .bf16 := Memref.whole cc0_scratch0
abbrev scP : Memref sig .tc .vmem S512x256 .bf16 := Memref.whole cc0_scratch1
abbrev scQ : Memref sig .tc .vmem S512x64 .bf16 := Memref.whole cc0_scratch2
abbrev scA : Memref sig .tc .vmem S512x384 .f32 := Memref.whole cc0_scratch3
abbrev scS : Memref sig .tc .vmem S512x8 .f32 := Memref.whole cc0_scratch4

/-- What the five scratch buffers hold together. -/
structure Scratch (F : FTy → Type) where
  E : Vec F S512x41728 .bf16
  P : Vec F S512x256 .bf16
  Q : Vec F S512x64 .bf16
  A : Vec F S512x384 .f32
  S : Vec F S512x8 .f32

/-- The scratch buffers owned at the contents `s`, with the generator register at some state. -/
def scr (c : Dev nD) (s : Scratch F) : sProp 𝕄 :=
  iprop((ow c scE s.E ∗ ow c scP s.P ∗ ow c scQ s.Q ∗ ow c scA s.A ∗ ow c scS s.S) ∗ ∃ r, prngReg c r)

/-- The pipeline's own invariant is the scratch at some contents. -/
theorem PhiA_split (c : Dev nD) : (Pipeline.ΦA spec0 c : sProp 𝕄) ⊢ iprop(∃ s : Scratch F, scr c s) := by
  rw [Pipeline.ΦA, scopedRest0_eq]
  unfold scr ow
  simp only [owns_whole]
  iintro ⟨⟨⟨%e, HE⟩, ⟨%p, HP⟩, ⟨%q, HQ⟩, ⟨%a, HA⟩, ⟨%s, HS⟩⟩, Hr⟩
  iexists (⟨e, p, q, a, s⟩ : Scratch F)
  isplitl [HE HP HQ HA HS]
  · isplitl [HE]; · iexact HE
    isplitl [HP]; · iexact HP
    isplitl [HQ]; · iexact HQ
    isplitl [HA]; · iexact HA
    iexact HS
  iexact Hr

/-- And conversely. -/
theorem PhiA_join (c : Dev nD) (s : Scratch F) : scr c s ⊢ (Pipeline.ΦA spec0 c : sProp 𝕄) := by
  rw [Pipeline.ΦA, scopedRest0_eq]
  unfold scr ow
  simp only [owns_whole]
  iintro ⟨⟨HE, HP, HQ, HA, HS⟩, Hr⟩
  isplitl [HE HP HQ HA HS]
  · isplitl [HE]; · iexists s.E; iexact HE
    isplitl [HP]; · iexists s.P; iexact HP
    isplitl [HQ]; · iexists s.Q; iexact HQ
    isplitl [HA]; · iexists s.A; iexact HA
    iexists s.S; iexact HS
  iexact Hr

/-! ## The pipeline's program data -/

/-- The program data on core `c`, for what is said of the output (`out`) and of the scratch between points (`Φ`): every
    array as the region finds it, every input window holding its block. -/
def dat (out : Dev nD → Fin cfg0.N → S512x1024.Idx → Elt F .f32) (Φ : Dev nD → Fin (cfg0.N + 1) → sProp 𝕄) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out c t
  Φ t := Φ c t
  q _ := fullShare
  owed _ := 0

/-- What the body leaves in each buffer at point `t`, started from scratch contents `s` and output contents `X`. -/
abbrev stepOut (c : Dev nD) (t : Fin cfg0.N) (X : Vec F S512x1024 .f32) (s : Scratch F) :=
  (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scE (Memref.isWhole_whole _) scP (Memref.isWhole_whole _) scQ (Memref.isWhole_whole _) scA (Memref.isWhole_whole _) scS (Memref.isWhole_whole _)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep X) (scE.view.rep s.E) (scP.view.rep s.P) (scQ.view.rep s.Q) (scA.view.rep s.A) (scS.view.rep s.S)).1

/-- The output block the body leaves at point `t`. -/
def outBlk (c : Dev nD) (t : Fin cfg0.N) (X : Vec F S512x1024 .f32) (s : Scratch F) : Vec F S512x1024 .f32 :=
  (st0_6 t).view.read (Elt F) (stepOut m c t X s).1

/-- The scratch contents the body leaves at point `t`. -/
def next (c : Dev nD) (t : Fin cfg0.N) (X : Vec F S512x1024 .f32) (s : Scratch F) : Scratch F :=
  ⟨scE.view.read (Elt F) (stepOut m c t X s).2.1, scP.view.read (Elt F) (stepOut m c t X s).2.2.1,
    scQ.view.read (Elt F) (stepOut m c t X s).2.2.2.1, scA.view.read (Elt F) (stepOut m c t X s).2.2.2.2.1,
    scS.view.read (Elt F) (stepOut m c t X s).2.2.2.2.2⟩

/-- The body at point `t` with every input window holding its block: the inputs stay, the output block and the scratch
    end at `outBlk` and `next`. -/
theorem step_wp (c : Dev nD) (t : Fin cfg0.N) (X : Vec F S512x1024 .f32) (s : Scratch F) :
    iprop(scr c s ∗ ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ ow c (st0_6 t) X)
    ⊢ wp frame (wpE (defs₀ (F := F)) Variants.none c none) Set.univ (bodyAt0 t) (fun _ =>
      iprop(scr c (next m c t X s) ∗ ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ ow c (st0_6 t) (outBlk m c t X s))) := by
  have h := body_wp c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scE (Memref.isWhole_whole _) scP (Memref.isWhole_whole _) scQ (Memref.isWhole_whole _) scA (Memref.isWhole_whole _) scS (Memref.isWhole_whole _)
    (iblk m c 0 t) (iblk m c 1 t) (iblk m c 2 t) (iblk m c 3 t) (iblk m c 4 t) (iblk m c 5 t) X s.E s.P s.Q s.A s.S
  refine triple_restated ((Idealize.SL.BI.Laws.sep_mono h .rfl).trans (wp_frame_r _ _ _ (R := iprop(∃ r, prngReg c r)))) rfl ?_ fun _ => ?_
  · unfold scr
    iintro ⟨⟨⟨HE, HP, HQ, HA, HS⟩, Hr⟩, H0, H1, H2, H3, H4, H5, H6⟩
    isplitr [Hr]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HE]; · iexact HE
      isplitl [HP]; · iexact HP
      isplitl [HQ]; · iexact HQ
      isplitl [HA]; · iexact HA
      iexact HS
    iexact Hr
  · unfold scr next outBlk
    iintro ⟨⟨H0, H1, H2, H3, H4, H5, H6, HE, HP, HQ, HA, HS⟩, Hr⟩
    isplitl [HE HP HQ HA HS Hr]
    · isplitr [Hr]
      · isplitl [HE]; · iexact HE
        isplitl [HP]; · iexact HP
        isplitl [HQ]; · iexact HQ
        isplitl [HA]; · iexact HA
        iexact HS
      iexact Hr
    isplitl [H0]; · iexact H0
    isplitl [H1]; · iexact H1
    isplitl [H2]; · iexact H2
    isplitl [H3]; · iexact H3
    isplitl [H4]; · iexact H4
    isplitl [H5]; · iexact H5
    iexact H6

/-! ## The frame -/

/-- Only the output window is forgotten. -/
def fgt : Fin cfg0.W → Bool := fun w => w == 6

/-- The data of the frame: nothing is said of the output or of the scratch. -/
abbrev datF := dat m (fun _ => Dat.unnamed (cfg := cfg0) 6) (fun c _ => Pipeline.ΦA spec0 c)

/-- Every input window holds its block when the body starts. -/
theorem before_in (out : Dev nD → Fin cfg0.N → S512x1024.Idx → Elt F .f32) (Φ : Dev nD → Fin (cfg0.N + 1) → sProp 𝕄) (c : Dev nD) (t : Fin cfg0.N)
    (Y : sProp 𝕄) :
    iprop((∃ d, ow c (st0_0 t) ((dat m out Φ 0 c).before 0 t d)) ∗ (∃ d, ow c (st0_1 t) ((dat m out Φ 0 c).before 1 t d))
      ∗ (∃ d, ow c (st0_2 t) ((dat m out Φ 0 c).before 2 t d)) ∗ (∃ d, ow c (st0_3 t) ((dat m out Φ 0 c).before 3 t d))
      ∗ (∃ d, ow c (st0_4 t) ((dat m out Φ 0 c).before 4 t d)) ∗ (∃ d, ow c (st0_5 t) ((dat m out Φ 0 c).before 5 t d)) ∗ Y)
    ⊢ iprop(ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ Y) := by
  simp only [before0_0_of m (dat m out Φ 0 c) rfl (fun _ => rfl) t, before0_1_of m (dat m out Φ 0 c) rfl (fun _ => rfl) t,
    before0_2_of m (dat m out Φ 0 c) rfl (fun _ => rfl) t, before0_3_of m (dat m out Φ 0 c) rfl (fun _ => rfl) t,
    before0_4_of m (dat m out Φ 0 c) rfl (fun _ => rfl) t, before0_5_of m (dat m out Φ 0 c) rfl (fun _ => rfl) t]
  iintro ⟨⟨%_, H0⟩, ⟨%_, H1⟩, ⟨%_, H2⟩, ⟨%_, H3⟩, ⟨%_, H4⟩, ⟨%_, H5⟩, H6⟩
  isplitl [H0]; · iexact H0
  isplitl [H1]; · iexact H1
  isplitl [H2]; · iexact H2
  isplitl [H3]; · iexact H3
  isplitl [H4]; · iexact H4
  isplitl [H5]; · iexact H5
  iexact H6

/-- The step with something carried along. -/
theorem step_frame (c : Dev nD) (t : Fin cfg0.N) (X : Vec F S512x1024 .f32) (s : Scratch F) (R : sProp 𝕄) :
    iprop(scr c s ∗ R ∗ ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ ow c (st0_6 t) X)
    ⊢ wp frame (wpE (defs₀ (F := F)) Variants.none c none) Set.univ (bodyAt0 t) (fun _ =>
      iprop(scr c (next m c t X s) ∗ R ∗ ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ ow c (st0_6 t) (outBlk m c t X s))) := by
  refine triple_restated ((Idealize.SL.BI.Laws.sep_mono (step_wp m c t X s) .rfl).trans (wp_frame_r _ _ _ (R := R))) rfl ?_ fun _ => ?_
  · iintro ⟨Hs, HR, HB⟩
    isplitr [HR]
    · isplitl [Hs]; · iexact Hs
      iexact HB
    iexact HR
  · iintro ⟨⟨Hs, HB⟩, HR⟩
    isplitl [Hs]; · iexact Hs
    isplitl [HR]; · iexact HR
    iexact HB

/-- The body obligation with the output forgotten. -/
theorem obligation (c : Dev nD) : BodyObligationLoose (datF m 0 c) (defs₀ (F := F)) Variants.none () Set.univ fgt := by
  intro t
  rw [bigSep_W0, bigSep_W0]
  unfold defs₀
  rw [Defs.onTc_tc]
  change iprop(Pipeline.ΦA spec0 c ∗ (datF m 0 c).owesAt () t.castSucc
      ∗ (∃ d, ow c (st0_0 t) ((datF m 0 c).before 0 t d)) ∗ (∃ d, ow c (st0_1 t) ((datF m 0 c).before 1 t d))
      ∗ (∃ d, ow c (st0_2 t) ((datF m 0 c).before 2 t d)) ∗ (∃ d, ow c (st0_3 t) ((datF m 0 c).before 3 t d))
      ∗ (∃ d, ow c (st0_4 t) ((datF m 0 c).before 4 t d)) ∗ (∃ d, ow c (st0_5 t) ((datF m 0 c).before 5 t d)) ∗ (∃ X, ow c (st0_6 t) X))
    ⊢ wp frame (wpE (defs₀ (F := F)) Variants.none c none) Set.univ (bodyAt0 t) (fun _ =>
      iprop(Pipeline.ΦA spec0 c ∗ (datF m 0 c).owesAt () t.castSucc
      ∗ ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ (∃ X, ow c (st0_6 t) X)))
  refine (Idealize.SL.BI.Laws.sep_mono (PhiA_split c) (Idealize.SL.BI.Laws.sep_mono .rfl (before_in m _ _ c t _))).trans ?_
  iintro ⟨⟨%s, Hs⟩, HR, H0, H1, H2, H3, H4, H5, ⟨%X, H6⟩⟩
  iapply (triple_restated (step_frame m c t X s ((datF m 0 c).owesAt () t.castSucc)) rfl .rfl fun _ => ?_)
  rotate_left
  · isplitl [Hs]; · iexact Hs
    isplitl [HR]; · iexact HR
    isplitl [H0]; · iexact H0
    isplitl [H1]; · iexact H1
    isplitl [H2]; · iexact H2
    isplitl [H3]; · iexact H3
    isplitl [H4]; · iexact H4
    isplitl [H5]; · iexact H5
    iexact H6
  · iintro ⟨Hs, HR, H0, H1, H2, H3, H4, H5, H6⟩
    isplitl [Hs]; · iapply (PhiA_join c (next m c t X s)); iexact Hs
    isplitl [HR]; · iexact HR
    isplitl [H0]; · iexact H0
    isplitl [H1]; · iexact H1
    isplitl [H2]; · iexact H2
    isplitl [H3]; · iexact H3
    isplitl [H4]; · iexact H4
    isplitl [H5]; · iexact H5
    iexists (outBlk m c t X s); iexact H6

/-- What the pipeline needs of its data beside the body: nothing is shared, nothing is owed. -/
theorem share_full (out : Dev nD → Fin cfg0.N → S512x1024.Idx → Elt F .f32) (Φ : Dev nD → Fin (cfg0.N + 1) → sProp 𝕄) (c : Dev nD) (w : Fin cfg0.W) :
    (dat m out Φ 0 c).share w = fullShare := (dat m out Φ 0 c).share_full (fun _ => rfl) w

/-- The lines after the region write the program's result only. -/
theorem sfx_writes : ∀ ops ∈ ([hostOps1] : List (List (HloOp τ sig (Elt F)))), ∀ op ∈ ops, ∀ b : Ref sig .tc,
    Proc.devRef .tc b ∈ op.writes → b ∈ ({main_v11} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  by_contra h
  exact StableHlo.devRef_ne_of_ne (fun e => h (Finset.mem_singleton.2 e)) hb

set_option backward.isDefEq.respectTransparency.types false in
/-- The run of the whole program with the output forgotten: the arrays outside the region's output and the result end
    as the region found them, the semaphore counters at zero. -/
theorem run_forget : θ_run (defs (F := F)) (onTc (τ := τ) (main (F := F))) ⟨m, fun _ => 0, ρ⟩ (fun r =>
    Pipeline.RDat.FramePostR cfg0 (fun c => (datF m 0 c).toRForget fgt) {main_v11} (fun c b => V0 m c (Proc.devRef .tc b)) r ∧ r.2.sem = fun _ => 0) :=
  Pipeline.θ_run_frame_around_T_forget cfgs (datF m) 0 launch0 defs₀ Variants.none fgt {main_v11} m ρ (main (F := F))
    (obligation m) (share_full m _ _) (fun _ _ => rfl) (V0 m) [hostOps1] sfx_sub sfx_fresh sfx_keeps
    sfx_writes (hmain m Variants.none) (fun _ _ => rfl) (fun _ _ => rfl) (Q' := _) (hQ' := fun _ h => h)

/-- An argument array is none of the region's arrays' outputs nor the result, so it ends as it began. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r h => ⟨fun c => ?_, h.2⟩) (run_forget m ρ)
  have hk := fun (b : Ref sig .tc) hs hr (hT : b ∉ ({main_v11} : Finset (Ref sig .tc))) =>
    (h.1 c).2 b (Finset.mem_sdiff.2 ⟨Pipeline.mem_restRefs_of b hs hr, hT⟩)
  exact ⟨(hk main_arg0 (by decide) (by decide) (by decide)).trans (V_main_arg0 m c),
    (hk main_arg1 (by decide) (by decide) (by decide)).trans (V_main_arg1 m c),
    (hk main_arg2 (by decide) (by decide) (by decide)).trans (V_main_arg2 m c),
    (hk main_arg3 (by decide) (by decide) (by decide)).trans (V_main_arg3 m c),
    (hk main_arg4 (by decide) (by decide) (by decide)).trans (V_main_arg4 m c),
    (hk main_arg5 (by decide) (by decide) (by decide)).trans (V_main_arg5 m c),
    (hk main_arg6 (by decide) (by decide) (by decide)).trans (V_main_arg6 m c)⟩

end Cert.KernelIdeal.Body

end
-- ==== Proof.Same.lean ====
/- The kernel as printed and the kernel printed for the extended reals are one program: no operation was replaced, so the
   two modules' definitions unfold to the same terms. A run of the one is therefore a run of the other. -/
module

public import proofs.«01_k».proof.Proof.Gen.KernelIdeal
public import proofs.«01_k».proof.Proof.Gen.Kernel

@[expose] public section

set_option maxRecDepth 16384

noncomputable section

namespace Cert.Same

open Idealize.ShloMosaic Idealize.SL.Sem

variable {F : FTy → Type} [FloatOps F]

/-- The two kernel bodies are one function. -/
theorem body_eq : @Kernel.cc0__body F _ Kernel.Gen.facts = @KernelIdeal.cc0__body F _ KernelIdeal.Gen.facts := rfl

/-- So are the two tables of bodies. -/
theorem defs₀_eq : @Kernel.defs₀ F _ Kernel.Gen.facts = @KernelIdeal.defs₀ F _ KernelIdeal.Gen.facts := by
  unfold Kernel.defs₀ KernelIdeal.defs₀
  refine congrArg Defs.onTc (funext fun l => funext fun x => ?_)
  match l, x with
  | ⟨0, _⟩, (t, s) =>
    show Kernel.cc0__body (F := F) (Kernel.grid0.coords t) _ _ _ _ _ _ _ _ _ _ _ _ _ _ _ _ _ _ _ _ _ _ _ _
      = KernelIdeal.cc0__body (F := F) (KernelIdeal.grid0.coords t) _ _ _ _ _ _ _ _ _ _ _ _ _ _ _ _ _ _ _ _ _ _ _ _
    rw [body_eq]
    rfl

/-- And the tables with the pipeline's loop beside them. -/
theorem defs_eq : @Kernel.defs F _ Kernel.Gen.facts = @KernelIdeal.defs F _ KernelIdeal.Gen.facts := by
  unfold Kernel.defs KernelIdeal.defs
  rw [defs₀_eq]
  rfl

/-- And the two main functions. -/
theorem main_eq : @Kernel.main F _ Kernel.Gen.facts = @KernelIdeal.main F _ KernelIdeal.Gen.facts := rfl

/-- Equal tables and equal programs have the same runs. -/
theorem run_congr {nD : Nat} {τ : Topo} {sig : RefSig} {Val : EltTy → Type} {Λ : Labels} {D D' : Defs nD τ sig Val Λ}
    {M M' : (c : Thread nD τ) → Prog (TpuEff nD τ sig Val Λ c.2) PUnit} (hD : D = D') (hM : M = M') (s : MemSt nD τ sig Val)
    (Q : PUnit × MemSt nD τ sig Val → Prop) (h : θ_run D' M' s Q) : θ_run D M s Q := by
  subst hD hM; exact h

/-- A run of the second program is a run of the first. -/
theorem run_kernel (s : MemSt Kernel.nD Kernel.τ Kernel.sig (Elt F)) (Q : PUnit × MemSt Kernel.nD Kernel.τ Kernel.sig (Elt F) → Prop)
    (h : θ_run (KernelIdeal.defs (F := F)) (onTc (τ := KernelIdeal.τ) (KernelIdeal.main (F := F))) s Q) :
    θ_run (Kernel.defs (F := F)) (onTc (τ := Kernel.τ) (Kernel.main (F := F))) s Q :=
  run_congr defs_eq (congrArg onTc main_eq) s Q h

end Cert.Same

end
-- ==== Proof.Cond.lean ====
/- Which of the body's regions runs at a grid point, and where in the scratch it works: both depend on the point's second
   coordinate alone, the step `j` of the row tile's eighty. -/
module

public import proofs.«01_k».proof.Proof.Body

@[expose] public section

set_option maxRecDepth 16384

namespace Cert.KernelIdeal.Body

open Idealize.ShloMosaic
open Cert.KernelIdeal.Gen

variable (i : grid0.Coords)

/-! ### The conditions -/

theorem cond1 : run.sl.v2 i = 1#1 ↔ (i 1).val = 0 := by
  unfold run.sl.v2 run.sl.v1 run.sl.v0
  generalize i 1 = j
  revert j; decide +kernel
theorem cond2 : k0_cond2 i = 1#1 ↔ (i 1).val < 20 := by
  unfold k0_cond2
  generalize i 1 = j
  revert j; decide +kernel
theorem cond3 : run.sl.v79 i = 1#1 ↔ (i 1).val = 19 := by
  unfold run.sl.v79 run.sl.v78 run.sl.v77
  generalize i 1 = j
  revert j; decide +kernel
theorem cond4 : run.sl.v8 i = 1#1 ↔ (i 1).val = 20 := by
  unfold run.sl.v8 run.sl.v7 run.sl.v6
  generalize i 1 = j
  revert j; decide +kernel
theorem cond5 : k0_cond5 i = 1#1 ↔ 20 ≤ (i 1).val ∧ (i 1).val < 30 := by
  unfold k0_cond5
  generalize i 1 = j
  revert j; decide +kernel
theorem cond6 : run.sl.v16 i = 1#1 ↔ (i 1).val = 30 := by
  unfold run.sl.v16 run.sl.v15 run.sl.v14
  generalize i 1 = j
  revert j; decide +kernel
theorem cond7 : k0_cond7 i = 1#1 ↔ 30 ≤ (i 1).val ∧ (i 1).val < 40 := by
  unfold k0_cond7
  generalize i 1 = j
  revert j; decide +kernel
theorem cond8 : run.sl.v24 i = 1#1 ↔ (i 1).val = 40 := by
  unfold run.sl.v24 run.sl.v23 run.sl.v22
  generalize i 1 = j
  revert j; decide +kernel
theorem cond9 : k0_cond9 i = 1#1 ↔ 40 ≤ (i 1).val ∧ (i 1).val < 59 := by
  unfold k0_cond9
  generalize i 1 = j
  revert j; decide +kernel
theorem cond10 : k0_cond10 i = 1#1 ↔ 59 < (i 1).val ∧ (i 1).val < 69 := by
  unfold k0_cond10
  generalize i 1 = j
  revert j; decide +kernel
theorem cond11 : k0_cond11 i = 1#1 ↔ 69 < (i 1).val := by
  unfold k0_cond11
  generalize i 1 = j
  revert j; decide +kernel
theorem cond12 : k0_cond12 i = 1#1 ↔ (i 1).val = 59 ∨ (i 1).val = 69 := by
  unfold k0_cond12
  generalize i 1 = j
  revert j; decide +kernel

/-! ### The places -/

theorem off4 (h : 40 ≤ (i 1).val) : k0_off4 i = ![0, 1024 * ((i 1).val - 40)] := by
  unfold k0_off4
  generalize i 1 = j at h ⊢
  revert j; decide +kernel
theorem off5 (h : 40 ≤ (i 1).val) : k0_off5 i = ![0, 1024 * ((i 1).val - 40) + 384] := by
  unfold k0_off5
  generalize i 1 = j at h ⊢
  revert j; decide +kernel
theorem off6 (h : 40 ≤ (i 1).val) : k0_off6 i = ![0, 1024 * ((i 1).val - 40) + 640] := by
  unfold k0_off6
  generalize i 1 = j at h ⊢
  revert j; decide +kernel
theorem off7 (h : 40 ≤ (i 1).val) : k0_off7 i = ![0, 1024 * ((i 1).val - 40)] := by
  unfold k0_off7
  generalize i 1 = j at h ⊢
  revert j; decide +kernel
theorem off8_384 (h : 40 ≤ (i 1).val) : k0_off8 i 384#32 = ![0, 1024 * ((i 1).val - 40) + 384] := by
  unfold k0_off8
  generalize i 1 = j at h ⊢
  revert j; decide +kernel
theorem off8_640 (h : 40 ≤ (i 1).val) : k0_off8 i 640#32 = ![0, 1024 * ((i 1).val - 40) + 640] := by
  unfold k0_off8
  generalize i 1 = j at h ⊢
  revert j; decide +kernel

/-- The first column of the output tile. -/
theorem col (h : 40 ≤ (i 1).val) : run.sl.v26 i = BitVec.ofNat 32 (1024 * ((i 1).val - 40)) := by
  unfold run.sl.v26 run.sl.v25
  generalize i 1 = j at h ⊢
  revert j; decide +kernel

end Cert.KernelIdeal.Body
-- ==== Proof.Step.lean ====
/- What the kernel's body leaves in its buffers at one grid point, by the phase the point is in. -/
module

public import proofs.«01_k».proof.Proof.Cond
public import Idealize.ShloMosaic.Lib.VecWindow

@[expose] public section

set_option maxRecDepth 16384

noncomputable section

namespace Cert.KernelIdeal.Body

open Idealize.ShloMosaic Idealize.ShloMosaic.TcCoe
open Cert.KernelIdeal.Gen

variable {F : FTy → Type} [FloatOps F] [∀ e, Nonempty (Elt F e)]

/-- The twelve buffers the body is called with. -/
structure Args where
  x : Memref sig .tc .vmem S512x1024 .bf16
  wx : x.IsWhole
  h : Memref sig .tc .vmem S1024x1024 .bf16
  wh : h.IsWhole
  p0 : Memref sig .tc .vmem S1024x256 .bf16
  wp0 : p0.IsWhole
  t0 : Memref sig .tc .vmem S256x1024 .bf16
  wt0 : t0.IsWhole
  p1 : Memref sig .tc .vmem S1024x64 .bf16
  wp1 : p1.IsWhole
  t1 : Memref sig .tc .vmem S64x1024 .bf16
  wt1 : t1.IsWhole
  o : Memref sig .tc .vmem S512x1024 .f32
  wo : o.IsWhole
  E : Memref sig .tc .vmem S512x41728 .bf16
  wE : E.IsWhole
  P : Memref sig .tc .vmem S512x256 .bf16
  wP : P.IsWhole
  Q : Memref sig .tc .vmem S512x64 .bf16
  wQ : Q.IsWhole
  A : Memref sig .tc .vmem S512x384 .f32
  wA : A.IsWhole
  S : Memref sig .tc .vmem S512x8 .f32
  wS : S.IsWhole

/-- What they hold. -/
structure Vals (F : FTy → Type) where
  x : Vec F S512x1024 .bf16
  h : Vec F S1024x1024 .bf16
  p0 : Vec F S1024x256 .bf16
  t0 : Vec F S256x1024 .bf16
  p1 : Vec F S1024x64 .bf16
  t1 : Vec F S64x1024 .bf16
  o : Vec F S512x1024 .f32
  E : Vec F S512x41728 .bf16
  P : Vec F S512x256 .bf16
  Q : Vec F S512x64 .bf16
  A : Vec F S512x384 .f32
  S : Vec F S512x8 .f32

variable (c : Dev nD) (i : grid0.Coords) (a : Args) (v : Vals F)

/-- The buffers after the body. -/
def out := (run c i a.x a.wx a.h a.wh a.p0 a.wp0 a.t0 a.wt0 a.p1 a.wp1 a.t1 a.wt1 a.o a.wo a.E a.wE a.P a.wP a.Q a.wQ a.A a.wA a.S a.wS
  (a.x.view.rep v.x) (a.h.view.rep v.h) (a.p0.view.rep v.p0) (a.t0.view.rep v.t0) (a.p1.view.rep v.p1) (a.t1.view.rep v.t1)
  (a.o.view.rep v.o) (a.E.view.rep v.E) (a.P.view.rep v.P) (a.Q.view.rep v.Q) (a.A.view.rep v.A) (a.S.view.rep v.S)).1

/-! ### Reading the run: loads are windows, stores put -/

theorem readAt_window {sp : Space} {s : Shape} {e : EltTy} (w : View sig .tc sp s e) (f : w.ty.Contents (Elt F)) {off size : Fin s.rank → ℕ}
    (inb : ∀ a, off a + size a ≤ s.size a) :
    w.readAt (Elt F) (Rect.unit off size inb).toLoadRect f = VecWindow.window (w.read (Elt F) f) off size inb := rfl

theorem read_writes_one {sp : Space} {s : Shape} {e : EltTy} (w : View sig .tc sp s e) (f : w.ty.Contents (Elt F)) {off size : Fin s.rank → ℕ}
    (inb : ∀ a, off a + size a ≤ s.size a) (y : (Rect.unit off size inb).shape.Idx → Elt F e) (L : List (View.Piece (Elt F) s e)) :
    w.read (Elt F) (w.writes (Elt F) f (⟨Rect.unit off size inb, y⟩ :: L)) = VecWindow.put (w.read (Elt F) (w.writes (Elt F) f L)) off size y :=
  View.read_writes_cons_put w f inb y L rfl

/-- A put over the whole shape replaces it. -/
theorem put_full {α : Type} {a b : Nat} (x w : (⟨2, ![a, b]⟩ : Shape).Idx → α) :
    VecWindow.put (s := ⟨2, ![a, b]⟩) x ![0, 0] ![a, b] w = w := by
  funext y
  unfold VecWindow.put
  rw [dif_pos (by intro k; have := (y k).isLt; fin_cases k <;> simpa using this)]
  congr 1
  funext k
  refine Fin.ext ?_
  show (y k).val - _ = _
  fin_cases k <;> rfl

/-- And the window over the whole shape is all of it. -/
theorem window_full {α : Type} {a b : Nat} (x : (⟨2, ![a, b]⟩ : Shape).Idx → α) (inb) :
    VecWindow.window (s := ⟨2, ![a, b]⟩) x ![0, 0] ![a, b] inb = x := by
  funext y
  unfold VecWindow.window
  congr 1
  funext k
  refine Fin.ext ?_
  show _ + 1 * (y k).val = _
  rw [Nat.one_mul]
  fin_cases k <;> exact Nat.zero_add _

/-- A window at offsets known to be others. -/
theorem window_off {α : Type} {s : Shape} (x : s.Idx → α) {off off' size : Fin s.rank → ℕ} (h : off = off') (inb : ∀ a, off a + size a ≤ s.size a) :
    VecWindow.window x off size inb = VecWindow.window x off' size (h ▸ inb) := by subst h; rfl

/-- The bound of a window of `n` columns of the exponentials from column `o`. -/
theorem fits {o n : Nat} (h : o + n ≤ 41728) : ∀ a, (![0, o] : Fin 2 → ℕ) a + (![512, n] : Fin 2 → ℕ) a ≤ S512x41728.size a := by
  intro a; fin_cases a
  · exact Nat.le_refl 512
  · exact h

/-! ### The projected rows -/

theorem P_first (h : (i 1).val = 20) : a.P.view.read (Elt F) (out c i a v).2.2.1
    = k0_pay11 v.x v.p0 := by
  simp only [out, run, dif_pos ((cond4 i).2 (by omega)),
    readAt_window, read_writes_one, View.writes_nil, View.read_rep, put_full, window_full]

theorem P_keep (h : (i 1).val ≠ 20) : a.P.view.read (Elt F) (out c i a v).2.2.1
    = v.P := by
  simp only [out, run, dif_neg (mt (cond4 i).1 (by omega)),
    readAt_window, read_writes_one, View.writes_nil, View.read_rep, put_full, window_full]

theorem Q_first (h : (i 1).val = 30) : a.Q.view.read (Elt F) (out c i a v).2.2.2.1
    = k0_pay15 v.x v.p1 := by
  simp only [out, run, dif_pos ((cond6 i).2 (by omega)),
    readAt_window, read_writes_one, View.writes_nil, View.read_rep, put_full, window_full]

theorem Q_keep (h : (i 1).val ≠ 30) : a.Q.view.read (Elt F) (out c i a v).2.2.2.1
    = v.Q := by
  simp only [out, run, dif_neg (mt (cond6 i).1 (by omega)),
    readAt_window, read_writes_one, View.writes_nil, View.read_rep, put_full, window_full]

/-! ### The exponentials -/

theorem E_head (h : (i 1).val < 20) : a.E.view.read (Elt F) (out c i a v).2.1
    = VecWindow.put v.E ![0, 1024 * (i 1).val] ![512, 1024] (k0_pay7 v.x v.h) := by
  simp only [out, run, dif_pos ((cond2 i).2 (by omega)), dif_neg (mt (cond7 i).1 (by omega)), dif_neg (mt (cond5 i).1 (by omega)), run.sl.H9_1, k0_off1_eq,
    readAt_window, read_writes_one, View.writes_nil, View.read_rep, put_full, window_full]

theorem E_tail0 (h : 20 ≤ (i 1).val ∧ (i 1).val < 30) : a.E.view.read (Elt F) (out c i a v).2.1
    = VecWindow.put v.E ![0, 1024 * (i 1).val] ![512, 1024] (k0_pay13 (a.P.view.read (Elt F) (out c i a v).2.2.1) v.t0) := by
  simp only [out, run, dif_pos ((cond5 i).2 (by omega)), dif_neg (mt (cond7 i).1 (by omega)), dif_neg (mt (cond2 i).1 (by omega)), run.sl.v46, k0_off2_eq,
    readAt_window, read_writes_one, View.writes_nil, View.read_rep, put_full, window_full]

theorem E_tail1 (h : 30 ≤ (i 1).val ∧ (i 1).val < 40) : a.E.view.read (Elt F) (out c i a v).2.1
    = VecWindow.put v.E ![0, 1024 * (i 1).val] ![512, 1024] (k0_pay17 (a.Q.view.read (Elt F) (out c i a v).2.2.2.1) v.t1) := by
  simp only [out, run, dif_pos ((cond7 i).2 (by omega)), dif_neg (mt (cond5 i).1 (by omega)), dif_neg (mt (cond2 i).1 (by omega)), run.sl.v47, k0_off3_eq,
    readAt_window, read_writes_one, View.writes_nil, View.read_rep, put_full, window_full]

theorem E_keep (h : 40 ≤ (i 1).val) : a.E.view.read (Elt F) (out c i a v).2.1
    = v.E := by
  simp only [out, run, dif_neg (mt (cond7 i).1 (by omega)), dif_neg (mt (cond5 i).1 (by omega)), dif_neg (mt (cond2 i).1 (by omega)),
    readAt_window, read_writes_one, View.writes_nil, View.read_rep, put_full, window_full]

/-! ### The running sums -/

theorem A_first (h : (i 1).val = 0) : a.A.view.read (Elt F) (out c i a v).2.2.2.2.1
    = VecWindow.put k0_pay5 ![0, 0] ![512, 128] (k0_pay8 v.x v.h (VecWindow.window k0_pay5 ![0, 0] ![512, 128] (by decide))) := by
  simp only [out, run, dif_pos ((cond1 i).2 (by omega)), dif_pos ((cond2 i).2 (by omega)), dif_neg (mt (cond7 i).1 (by omega)), dif_neg (mt (cond5 i).1 (by omega)), run.sl.H12_1, run.sl.v46, run.sl.v47, run.sl.v57, run.sl.v58, run.sl.v59,
    readAt_window, read_writes_one, View.writes_nil, View.read_rep, put_full, window_full]

theorem A_head (h : 0 < (i 1).val ∧ (i 1).val < 20) : a.A.view.read (Elt F) (out c i a v).2.2.2.2.1
    = VecWindow.put v.A ![0, 0] ![512, 128] (k0_pay8 v.x v.h (VecWindow.window v.A ![0, 0] ![512, 128] (by decide))) := by
  simp only [out, run, dif_pos ((cond2 i).2 (by omega)), dif_neg (mt (cond1 i).1 (by omega)), dif_neg (mt (cond7 i).1 (by omega)), dif_neg (mt (cond5 i).1 (by omega)), run.sl.H12_1, run.sl.v46, run.sl.v47, run.sl.v57, run.sl.v58, run.sl.v59,
    readAt_window, read_writes_one, View.writes_nil, View.read_rep, put_full, window_full]

theorem A_tail0 (h : 20 ≤ (i 1).val ∧ (i 1).val < 30) : a.A.view.read (Elt F) (out c i a v).2.2.2.2.1
    = VecWindow.put v.A ![0, 128] ![512, 128] (k0_pay14 (a.P.view.read (Elt F) (out c i a v).2.2.1) v.t0 (VecWindow.window v.A ![0, 128] ![512, 128] (by decide))) := by
  simp only [out, run, dif_pos ((cond5 i).2 (by omega)), dif_neg (mt (cond1 i).1 (by omega)), dif_neg (mt (cond7 i).1 (by omega)), dif_neg (mt (cond2 i).1 (by omega)), run.sl.H12_1, run.sl.v46, run.sl.v47, run.sl.v57, run.sl.v58, run.sl.v59,
    readAt_window, read_writes_one, View.writes_nil, View.read_rep, put_full, window_full]

theorem A_tail1 (h : 30 ≤ (i 1).val ∧ (i 1).val < 40) : a.A.view.read (Elt F) (out c i a v).2.2.2.2.1
    = VecWindow.put v.A ![0, 256] ![512, 128] (k0_pay18 (a.Q.view.read (Elt F) (out c i a v).2.2.2.1) v.t1 (VecWindow.window v.A ![0, 256] ![512, 128] (by decide))) := by
  simp only [out, run, dif_pos ((cond7 i).2 (by omega)), dif_neg (mt (cond1 i).1 (by omega)), dif_neg (mt (cond5 i).1 (by omega)), dif_neg (mt (cond2 i).1 (by omega)), run.sl.H12_1, run.sl.v46, run.sl.v47, run.sl.v57, run.sl.v58, run.sl.v59,
    readAt_window, read_writes_one, View.writes_nil, View.read_rep, put_full, window_full]

theorem A_keep (h : 40 ≤ (i 1).val) : a.A.view.read (Elt F) (out c i a v).2.2.2.2.1
    = v.A := by
  simp only [out, run, dif_neg (mt (cond7 i).1 (by omega)), dif_neg (mt (cond5 i).1 (by omega)), dif_neg (mt (cond2 i).1 (by omega)), dif_neg (mt (cond1 i).1 (by omega)),
    readAt_window, read_writes_one, View.writes_nil, View.read_rep, put_full, window_full]

/-! ### The row statistics -/

theorem S_pick (h : (i 1).val = 19) : a.S.view.read (Elt F) (out c i a v).2.2.2.2.2
    = VecWindow.put (VecWindow.put (v.S) ![0, 3] ![512, 1] (k0_pay9 v.x v.h)) ![0, 4] ![512, 1] (k0_pay10 v.x v.h) := by
  simp only [out, run, dif_pos ((cond2 i).2 (by omega)), dif_pos ((cond3 i).2 (by omega)), dif_neg (mt (cond8 i).1 (by omega)),
    readAt_window, read_writes_one, View.writes_nil, View.read_rep, put_full, window_full]

theorem S_norm (h : (i 1).val = 40) : a.S.view.read (Elt F) (out c i a v).2.2.2.2.2
    = VecWindow.put (VecWindow.put (VecWindow.put (v.S) ![0, 0] ![512, 1] (k0_pay20 v.A)) ![0, 1] ![512, 1] (k0_pay21 v.A (VecWindow.window v.S ![0, 3] ![512, 1] (by decide)))) ![0, 2] ![512, 1] (k0_pay22 v.A (VecWindow.window v.S ![0, 4] ![512, 1] (by decide))) := by
  simp only [out, run, dif_pos ((cond8 i).2 (by omega)), dif_neg (mt (cond1 i).1 (by omega)), dif_neg (mt (cond2 i).1 (by omega)), dif_neg (mt (cond5 i).1 (by omega)), dif_neg (mt (cond7 i).1 (by omega)), run.sl.v45, run.sl.v66, run.sl.v72, run.sl.H12_1,
    readAt_window, read_writes_one, View.writes_nil, View.read_rep, put_full, window_full]

theorem S_keep0 (h : (i 1).val ≠ 19 ∧ (i 1).val < 20) : a.S.view.read (Elt F) (out c i a v).2.2.2.2.2
    = v.S := by
  simp only [out, run, dif_pos ((cond2 i).2 (by omega)), dif_neg (mt (cond8 i).1 (by omega)), dif_neg (mt (cond3 i).1 (by omega)),
    readAt_window, read_writes_one, View.writes_nil, View.read_rep, put_full, window_full]

theorem S_keep1 (h : (i 1).val ≠ 40 ∧ 20 ≤ (i 1).val) : a.S.view.read (Elt F) (out c i a v).2.2.2.2.2
    = v.S := by
  simp only [out, run, dif_neg (mt (cond8 i).1 (by omega)), dif_neg (mt (cond2 i).1 (by omega)),
    readAt_window, read_writes_one, View.writes_nil, View.read_rep, put_full, window_full]

/-! ### The output tile -/

theorem o_head (h : 40 ≤ (i 1).val ∧ (i 1).val < 59) : a.o.view.read (Elt F) (out c i a v).1
    = k0_pay1 (VecWindow.window v.E ![0, 1024 * ((i 1).val - 40)] ![512, 1024] (fits (by have : (i 1).val < 80 := (i 1).isLt; omega))) (VecWindow.window (a.S.view.read (Elt F) (out c i a v).2.2.2.2.2) ![0, 0] ![512, 1] (by decide)) := by
  simp only [out, run, dif_pos ((cond9 i).2 (by omega)), dif_neg (mt (cond10 i).1 (by omega)), dif_neg (mt (cond11 i).1 (by omega)), dif_neg (mt (cond12 i).1 (by omega)), dif_neg (mt (cond7 i).1 (by omega)), dif_neg (mt (cond5 i).1 (by omega)), dif_neg (mt (cond2 i).1 (by omega)), run.sl.H9_1, run.sl.v46_1, run.sl.v47_1, run.sl.v47_2, run.sl.v47_3, run.sl.v49, run.sl.v49_1, run.sl.v49_2, run.sl.v56, run.sl.v64,
    readAt_window, read_writes_one, View.writes_nil, View.read_rep, put_full, window_full]
  rw [window_off _ (off4 i (by omega))]

theorem o_tail0 (h : 59 < (i 1).val ∧ (i 1).val < 69) : a.o.view.read (Elt F) (out c i a v).1
    = k0_pay2 (VecWindow.window v.E ![0, 1024 * ((i 1).val - 40) + 384] ![512, 1152] (fits (by have : (i 1).val < 80 := (i 1).isLt; omega))) (VecWindow.window (a.S.view.read (Elt F) (out c i a v).2.2.2.2.2) ![0, 1] ![512, 1] (by decide)) := by
  simp only [out, run, dif_pos ((cond10 i).2 (by omega)), dif_neg (mt (cond9 i).1 (by omega)), dif_neg (mt (cond11 i).1 (by omega)), dif_neg (mt (cond12 i).1 (by omega)), dif_neg (mt (cond7 i).1 (by omega)), dif_neg (mt (cond5 i).1 (by omega)), dif_neg (mt (cond2 i).1 (by omega)), run.sl.H9_1, run.sl.v46_1, run.sl.v47_1, run.sl.v47_2, run.sl.v47_3, run.sl.v49, run.sl.v49_1, run.sl.v49_2, run.sl.v56, run.sl.v64,
    readAt_window, read_writes_one, View.writes_nil, View.read_rep, put_full, window_full]
  rw [window_off _ (off5 i (by omega))]

theorem o_tail1 (h : 69 < (i 1).val) : a.o.view.read (Elt F) (out c i a v).1
    = k0_pay3 (VecWindow.window v.E ![0, 1024 * ((i 1).val - 40) + 640] ![512, 1152] (fits (by have : (i 1).val < 80 := (i 1).isLt; omega))) (VecWindow.window (a.S.view.read (Elt F) (out c i a v).2.2.2.2.2) ![0, 2] ![512, 1] (by decide)) := by
  simp only [out, run, dif_pos ((cond11 i).2 (by omega)), dif_neg (mt (cond9 i).1 (by omega)), dif_neg (mt (cond10 i).1 (by omega)), dif_neg (mt (cond12 i).1 (by omega)), dif_neg (mt (cond7 i).1 (by omega)), dif_neg (mt (cond5 i).1 (by omega)), dif_neg (mt (cond2 i).1 (by omega)), run.sl.H9_1, run.sl.v46_1, run.sl.v47_1, run.sl.v47_2, run.sl.v47_3, run.sl.v49, run.sl.v49_1, run.sl.v49_2, run.sl.v56, run.sl.v64,
    readAt_window, read_writes_one, View.writes_nil, View.read_rep, put_full, window_full]
  rw [window_off _ (off6 i (by omega))]

theorem o_mixed (h : (i 1).val = 59 ∨ (i 1).val = 69) : a.o.view.read (Elt F) (out c i a v).1
    = k0_pay4 (BitVec.ofNat 32 (1024 * ((i 1).val - 40))) (VecWindow.window v.E ![0, 1024 * ((i 1).val - 40)] ![512, 1024] (fits (by have : (i 1).val < 80 := (i 1).isLt; omega))) (VecWindow.window (a.S.view.read (Elt F) (out c i a v).2.2.2.2.2) ![0, 0] ![512, 1] (by decide))
      (VecWindow.window v.E ![0, 1024 * ((i 1).val - 40) + 384] ![512, 1152] (fits (by have : (i 1).val < 80 := (i 1).isLt; omega))) (VecWindow.window (a.S.view.read (Elt F) (out c i a v).2.2.2.2.2) ![0, 1] ![512, 1] (by decide)) (VecWindow.window v.E ![0, 1024 * ((i 1).val - 40) + 640] ![512, 1152] (fits (by have : (i 1).val < 80 := (i 1).isLt; omega))) (VecWindow.window (a.S.view.read (Elt F) (out c i a v).2.2.2.2.2) ![0, 2] ![512, 1] (by decide)) := by
  simp only [out, run, dif_pos ((cond12 i).2 (by omega)), dif_neg (mt (cond9 i).1 (by omega)), dif_neg (mt (cond10 i).1 (by omega)), dif_neg (mt (cond11 i).1 (by omega)), dif_neg (mt (cond7 i).1 (by omega)), dif_neg (mt (cond5 i).1 (by omega)), dif_neg (mt (cond2 i).1 (by omega)), run.sl.H9_1, run.sl.v46_1, run.sl.v47_1, run.sl.v47_2, run.sl.v47_3, run.sl.v49, run.sl.v49_1, run.sl.v49_2, run.sl.v56, run.sl.v64,
    readAt_window, read_writes_one, View.writes_nil, View.read_rep, put_full, window_full]
  have e7 := off7 i (by omega)
  have e8 := off8_384 i (by omega)
  have e9 := off8_640 i (by omega)
  rw [col i (by omega), window_off (s := S512x41728) _ e7, window_off (s := S512x41728) _ e8, window_off (s := S512x41728) _ e9]

theorem o_keep (h : (i 1).val < 40) : a.o.view.read (Elt F) (out c i a v).1
    = v.o := by
  simp only [out, run, dif_neg (mt (cond9 i).1 (by omega)), dif_neg (mt (cond10 i).1 (by omega)), dif_neg (mt (cond11 i).1 (by omega)), dif_neg (mt (cond12 i).1 (by omega)),
    readAt_window, read_writes_one, View.writes_nil, View.read_rep, put_full, window_full]

end Cert.KernelIdeal.Body

end
-- ==== Proof.Pay.lean ====
/- What the kernel's vector expressions compute, over the extended reals, element by element. -/
module

public import proofs.«01_k».proof.Proof.Gen.KernelIdeal.Skeleton
public import Idealize.ShloMosaic.Lib.Pointwise

@[expose] public section

set_option maxRecDepth 16384

noncomputable section

namespace Cert.KernelIdeal.Pay

open Idealize.ShloMosaic
open Cert.KernelIdeal.Gen

/-- The product of a row of `x` with a column of `w`. -/
def dot {M K N : Nat} (x : (⟨2, ![M, K]⟩ : Shape).Idx → EReal) (w : (⟨2, ![K, N]⟩ : Shape).Idx → EReal) (r : Fin M) (c : Fin N) : EReal :=
  ∑ k : Fin K, x (ix2 r k) * w (ix2 k c)

/-- The eight lanes of a row that fall on lane `l` when 1024 columns are folded into 128. -/
def lanes (f : Fin 1024 → EReal) (l : Fin 128) : EReal := ∑ s : Fin 8, f ⟨128 * s + l, by omega⟩

theorem lanes_eq (f : Fin 1024 → EReal) (l : Fin 128) :
    lanes f l = f ⟨l, by omega⟩ + f ⟨128 + l, by omega⟩ + f ⟨256 + l, by omega⟩ + f ⟨384 + l, by omega⟩
      + f ⟨512 + l, by omega⟩ + f ⟨640 + l, by omega⟩ + f ⟨768 + l, by omega⟩ + f ⟨896 + l, by omega⟩ := by
  simp only [lanes, Fin.sum_univ_eight]
  congr <;> simp

/-- A row sum with every column but one masked off keeps that column. -/
theorem sum_masked (f : Fin 1024 → EReal) (k : Fin 1024) :
    ∑ c : Fin 1024, Scalar.select (IntOp.cmpi CmpIPredicate.eq (BitVec.ofNat 32 c) (BitVec.ofNat 32 k)) (f c) 0 = f k := by
  rw [Finset.sum_eq_single k]
  · simp [Scalar.select, IntOp.cmpi]
  · intro c _ hc
    have : ¬ (c : Nat) = k := fun h => hc (Fin.ext h)
    have h2 : BitVec.ofNat 32 c ≠ BitVec.ofNat 32 k := fun h => this (by
      have := congrArg BitVec.toNat h
      simp only [BitVec.toNat_ofNat] at this
      omega)
    have h3 : (BitVec.ofNat 32 c == BitVec.ofNat 32 k) = false := by simpa using h2
    simp [Scalar.select, IntOp.cmpi, h3]
  · simp

theorem ofBits_478 : Ideal.ofBits .f32 0x43EF0000#32 = ((478 : ℝ) : EReal) := by
  simp [Ideal.ofBits, Ideal.ieee, -EReal.coe_mul]; norm_num
theorem ofBits_240 : Ideal.ofBits .f32 0x43700000#32 = ((240 : ℝ) : EReal) := by
  simp [Ideal.ofBits, Ideal.ieee, -EReal.coe_mul]; norm_num

/-- A choice by a signed comparison of small numbers is a choice by the numbers. -/
theorem select_slt (c n k : Nat) (hc : c + n < 100000) (hk : k < 100000) (a b : EReal) :
    Scalar.select (IntOp.cmpi CmpIPredicate.slt (IntOp.addi (BitVec.ofNat 32 c) (BitVec.ofNat 32 n)) (BitVec.ofNat 32 k)) a b
      = if n + c < k then a else b := by
  have : (IntOp.cmpi CmpIPredicate.slt (IntOp.addi (BitVec.ofNat 32 c) (BitVec.ofNat 32 n)) (BitVec.ofNat 32 k)) = 1 ↔ n + c < k := by
    have e : IntOp.addi (BitVec.ofNat 32 c) (BitVec.ofNat 32 n) = BitVec.ofNat 32 (c + n) := (BitVec.ofNat_add ..).symm
    have small : ∀ z : Nat, z < 100000 → (BitVec.ofNat 32 z).toInt = z := fun z hz => by
      have hn : (BitVec.ofNat 32 z).toNat = z := by rw [BitVec.toNat_ofNat]; exact Nat.mod_eq_of_lt (by omega)
      rw [BitVec.toInt_eq_toNat_of_lt (by omega), hn]
    rw [e]
    simp only [IntOp.cmpi, BitVec.slt_eq_decide, small _ hc, small _ hk, Nat.cast_lt, Nat.add_comm n c]
    by_cases h : c + n < k
    · simp [h]
    · simp [h]
  unfold Scalar.select
  by_cases h : n + c < k
  · rw [if_pos (this.mpr h), if_pos h]
  · rw [if_neg (fun q => h (this.mp q)), if_neg h]

/-! ### The three projections: the exponentials of a tile, and their folding into the running sums -/

theorem pay6_at (x : Vec Ideal S512x1024 .bf16) (w : Vec Ideal S1024x1024 .bf16) (r : Fin 512) (c : Fin 1024) :
    k0_pay6 (F := Ideal) x w (ix2 r c) = Ideal.exp (dot x w r c) := by
  pointwise [k0_pay6, dot]
theorem pay7_at (x : Vec Ideal S512x1024 .bf16) (w : Vec Ideal S1024x1024 .bf16) (r : Fin 512) (c : Fin 1024) :
    k0_pay7 (F := Ideal) x w (ix2 r c) = Ideal.exp (dot x w r c) := by
  pointwise [k0_pay7, pay6_at, dot]
theorem pay8_at (x : Vec Ideal S512x1024 .bf16) (w : Vec Ideal S1024x1024 .bf16) (o : Vec Ideal S512x128 .f32) (r : Fin 512) (l : Fin 128) :
    k0_pay8 (F := Ideal) x w o (ix2 r l) = o (ix2 r l) + lanes (fun c => Ideal.exp (dot x w r c)) l := by
  simp only [← pay6_at, lanes_eq]
  pointwise [k0_pay8]
theorem pay12_at (x : Vec Ideal S512x256 .bf16) (w : Vec Ideal S256x1024 .bf16) (r : Fin 512) (c : Fin 1024) :
    k0_pay12 (F := Ideal) x w (ix2 r c) = Ideal.exp (dot x w r c) := by
  pointwise [k0_pay12, dot]
theorem pay13_at (x : Vec Ideal S512x256 .bf16) (w : Vec Ideal S256x1024 .bf16) (r : Fin 512) (c : Fin 1024) :
    k0_pay13 (F := Ideal) x w (ix2 r c) = Ideal.exp (dot x w r c) := by
  pointwise [k0_pay13, pay12_at, dot]
theorem pay14_at (x : Vec Ideal S512x256 .bf16) (w : Vec Ideal S256x1024 .bf16) (o : Vec Ideal S512x128 .f32) (r : Fin 512) (l : Fin 128) :
    k0_pay14 (F := Ideal) x w o (ix2 r l) = o (ix2 r l) + lanes (fun c => Ideal.exp (dot x w r c)) l := by
  simp only [← pay12_at, lanes_eq]
  pointwise [k0_pay14]
theorem pay16_at (x : Vec Ideal S512x64 .bf16) (w : Vec Ideal S64x1024 .bf16) (r : Fin 512) (c : Fin 1024) :
    k0_pay16 (F := Ideal) x w (ix2 r c) = Ideal.exp (dot x w r c) := by
  pointwise [k0_pay16, dot]
theorem pay17_at (x : Vec Ideal S512x64 .bf16) (w : Vec Ideal S64x1024 .bf16) (r : Fin 512) (c : Fin 1024) :
    k0_pay17 (F := Ideal) x w (ix2 r c) = Ideal.exp (dot x w r c) := by
  pointwise [k0_pay17, pay16_at, dot]
theorem pay18_at (x : Vec Ideal S512x64 .bf16) (w : Vec Ideal S64x1024 .bf16) (o : Vec Ideal S512x128 .f32) (r : Fin 512) (l : Fin 128) :
    k0_pay18 (F := Ideal) x w o (ix2 r l) = o (ix2 r l) + lanes (fun c => Ideal.exp (dot x w r c)) l := by
  simp only [← pay16_at, lanes_eq]
  pointwise [k0_pay18]

/-- The exponentials of the two cluster columns, picked out of the last head tile. -/
theorem pay9_at (x : Vec Ideal S512x1024 .bf16) (w : Vec Ideal S1024x1024 .bf16) (r : Fin 512) (l : Fin 1) :
    k0_pay9 (F := Ideal) x w (ix2 r l) = Ideal.exp (dot x w r 544) := by
  pointwise [k0_pay9, pay6_at]
  exact sum_masked (fun c => Ideal.exp (dot x w r c)) 544
theorem pay10_at (x : Vec Ideal S512x1024 .bf16) (w : Vec Ideal S1024x1024 .bf16) (r : Fin 512) (l : Fin 1) :
    k0_pay10 (F := Ideal) x w (ix2 r l) = Ideal.exp (dot x w r 545) := by
  pointwise [k0_pay10, pay6_at]
  exact sum_masked (fun c => Ideal.exp (dot x w r c)) 545

/-- The hidden rows of the two tails. -/
theorem pay11_at (x : Vec Ideal S512x1024 .bf16) (w : Vec Ideal S1024x256 .bf16) (r : Fin 512) (c : Fin 256) :
    k0_pay11 (F := Ideal) x w (ix2 r c) = dot x w r c := by
  pointwise [k0_pay11, dot]
theorem pay15_at (x : Vec Ideal S512x1024 .bf16) (w : Vec Ideal S1024x64 .bf16) (r : Fin 512) (c : Fin 64) :
    k0_pay15 (F := Ideal) x w (ix2 r c) = dot x w r c := by
  pointwise [k0_pay15, dot]
theorem pay5_at (r : Fin 512) (c : Fin 384) : k0_pay5 (F := Ideal) (ix2 r c) = 0 := by
  pointwise [k0_pay5]

/-- The sum of the 128 lanes from `o` on, less the `n` padded columns each of which added one. -/
def total (a : Fin 384 → EReal) (o : Nat) (ho : o + 128 ≤ 384) (n : ℝ) : EReal := (∑ l : Fin 128, a ⟨o + l, by omega⟩) - (n : EReal)

theorem pay19_at (a : Vec Ideal S512x384 .f32) (r : Fin 512) (l : Fin 1) :
    k0_pay19 (F := Ideal) a (ix2 r l) = total (fun l => a (ix2 r l)) 0 (by omega) 478 := by
  pointwise [k0_pay19, total]
  simp only [ofBits_478, Nat.zero_add]
theorem pay20_at (a : Vec Ideal S512x384 .f32) (r : Fin 512) (l : Fin 1) :
    k0_pay20 (F := Ideal) a (ix2 r l) = Ideal.div 1 (total (fun l => a (ix2 r l)) 0 (by omega) 478) := by
  pointwise [k0_pay20, pay19_at]
theorem pay21_at (a : Vec Ideal S512x384 .f32) (q : Vec Ideal S512x1 .f32) (r : Fin 512) (l : Fin 1) :
    k0_pay21 (F := Ideal) a q (ix2 r l)
      = Ideal.div (q (ix2 r l)) (total (fun l => a (ix2 r l)) 0 (by omega) 478 * total (fun l => a (ix2 r l)) 128 (by omega) 240) := by
  simp only [← pay19_at a r l]
  pointwise [k0_pay21, total]
  simp only [ofBits_240]
theorem pay22_at (a : Vec Ideal S512x384 .f32) (q : Vec Ideal S512x1 .f32) (r : Fin 512) (l : Fin 1) :
    k0_pay22 (F := Ideal) a q (ix2 r l)
      = Ideal.div (q (ix2 r l)) (total (fun l => a (ix2 r l)) 0 (by omega) 478 * total (fun l => a (ix2 r l)) 256 (by omega) 240) := by
  simp only [← pay19_at a r l]
  pointwise [k0_pay22, total]
  simp only [ofBits_240]

/-! ### The output tiles -/

theorem pay1_at (e : Vec Ideal S512x1024 .bf16) (q : Vec Ideal S512x1 .f32) (r : Fin 512) (c : Fin 1024) :
    k0_pay1 (F := Ideal) e q (ix2 r c) = e (ix2 r c) * q (ix2 r 0) := by
  pointwise [k0_pay1]
theorem pay2_at (e : Vec Ideal S512x1152 .bf16) (q : Vec Ideal S512x1 .f32) (r : Fin 512) (c : Fin 1024) :
    k0_pay2 (F := Ideal) e q (ix2 r c) = e (ix2 r ⟨96 + c, by omega⟩) * q (ix2 r 0) := by
  pointwise [k0_pay2]
theorem pay3_at (e : Vec Ideal S512x1152 .bf16) (q : Vec Ideal S512x1 .f32) (r : Fin 512) (c : Fin 1024) :
    k0_pay3 (F := Ideal) e q (ix2 r c) = e (ix2 r ⟨80 + c, by omega⟩) * q (ix2 r 0) := by
  pointwise [k0_pay3]
theorem pay4_at (n : Nat) (hn : n < 50000) (e : Vec Ideal S512x1024 .bf16) (q : Vec Ideal S512x1 .f32) (e1 : Vec Ideal S512x1152 .bf16)
    (q1 : Vec Ideal S512x1 .f32) (e2 : Vec Ideal S512x1152 .bf16) (q2 : Vec Ideal S512x1 .f32) (r : Fin 512) (c : Fin 1024) :
    k0_pay4 (F := Ideal) (BitVec.ofNat 32 n) e q e1 q1 e2 q2 (ix2 r c)
      = if n + c < 20000 then e (ix2 r c) * q (ix2 r 0)
        else if n + c < 30000 then e1 (ix2 r ⟨96 + c, by omega⟩) * q1 (ix2 r 0)
        else e2 (ix2 r ⟨80 + c, by omega⟩) * q2 (ix2 r 0) := by
  pointwise [k0_pay4]
  rw [select_slt _ _ _ (by omega) (by omega), select_slt _ _ _ (by omega) (by omega)]

end Cert.KernelIdeal.Pay

end
-- ==== Proof.Inv.lean ====
/- What the scratch holds between two steps of a row tile, over the extended reals, and that the body keeps it: from the
   row's exponentials `ex` and its two hidden rows `z0`, `z1` alone. -/
module

public import proofs.«01_k».proof.Proof.Step
public import proofs.«01_k».proof.Proof.Pay

@[expose] public section

set_option maxRecDepth 16384

noncomputable section

namespace Cert.KernelIdeal.Value

open Idealize.ShloMosaic Idealize.ShloMosaic.TcCoe
open Cert.KernelIdeal.Gen Cert.KernelIdeal.Body Cert.KernelIdeal.Pay

/-! ### Windows and puts of whole columns, at an index -/

theorem put_at {α : Type} {M N n o : Nat} (x : (⟨2, ![M, N]⟩ : Shape).Idx → α) (w : (⟨2, ![M, n]⟩ : Shape).Idx → α) (r : Fin M) (c : Fin N) :
    VecWindow.put (s := ⟨2, ![M, N]⟩) x ![0, o] ![M, n] w (ix2 r c) = if h : o ≤ c.val ∧ c.val < o + n then w (ix2 r ⟨c - o, by omega⟩) else x (ix2 r c) := by
  unfold VecWindow.put
  by_cases h : o ≤ c.val ∧ c.val < o + n
  · have h' : ∀ a, (![0, o] : Fin 2 → ℕ) a ≤ ((ix2 r c : (⟨2, ![M, N]⟩ : Shape).Idx) a).val ∧ ((ix2 r c : (⟨2, ![M, N]⟩ : Shape).Idx) a).val < (![0, o] : Fin 2 → ℕ) a + (![M, n] : Fin 2 → ℕ) a := by
      intro a
      fin_cases a
      · have := r.isLt; simpa using this
      · simpa using h
    rw [dif_pos h', dif_pos h]
    congr 1
    funext a
    fin_cases a <;> rfl
  · rw [dif_neg h, dif_neg]
    intro h'
    exact h (by simpa using h' 1)

theorem put_in {α : Type} {M N n o : Nat} (x : (⟨2, ![M, N]⟩ : Shape).Idx → α) (w : (⟨2, ![M, n]⟩ : Shape).Idx → α) (r : Fin M) (c : Fin N) (l : Fin n)
    (h : c.val = o + l.val) : VecWindow.put (s := ⟨2, ![M, N]⟩) x ![0, o] ![M, n] w (ix2 r c) = w (ix2 r l) := by
  rw [put_at, dif_pos (by omega)]
  congr 2
  exact Fin.ext (by simp only; omega)

theorem put_out {α : Type} {M N n o : Nat} (x : (⟨2, ![M, N]⟩ : Shape).Idx → α) (w : (⟨2, ![M, n]⟩ : Shape).Idx → α) (r : Fin M) (c : Fin N)
    (h : c.val < o ∨ o + n ≤ c.val) : VecWindow.put (s := ⟨2, ![M, N]⟩) x ![0, o] ![M, n] w (ix2 r c) = x (ix2 r c) := by
  rw [put_at, dif_neg (by omega)]

theorem window_at {α : Type} {M N n o : Nat} (x : (⟨2, ![M, N]⟩ : Shape).Idx → α) (inb) (r : Fin M) (c : Fin n) (k : Fin N) (hk : k.val = o + c.val) :
    VecWindow.window (s := ⟨2, ![M, N]⟩) x ![0, o] ![M, n] inb (ix2 r c) = x (ix2 r k) := by
  unfold VecWindow.window
  congr 1
  funext a
  refine Fin.ext ?_
  fin_cases a
  · show 0 + 1 * r.val = r.val
    omega
  · show o + 1 * c.val = k.val
    omega

/-! ### The invariant -/

/-- The first step and the step after the last of each of the three parts. -/
def lo : Fin 3 → Nat := ![0, 20, 30]
def hi : Fin 3 → Nat := ![20, 30, 40]

/-- Lane `l` of part `g`'s sum after `j` steps, of a row of exponentials. -/
def part (ex : Nat → EReal) (j : Nat) (g : Fin 3) (l : Fin 128) : EReal :=
  ∑ b ∈ Finset.Ico (lo g) (min j (hi g)), lanes (fun c => ex (1024 * b + c)) l

/-- The softmax denominators, and the factors of the three parts of the result. -/
def den (ex : Nat → EReal) (g : Fin 3) (n : ℝ) : EReal := (∑ l : Fin 128, part ex 40 g l) - (n : EReal)
def fac0 (ex : Nat → EReal) : EReal := Ideal.div 1 (den ex 0 478)
def fac1 (ex : Nat → EReal) : EReal := Ideal.div (ex 20000) (den ex 0 478 * den ex 1 240)
def fac2 (ex : Nat → EReal) : EReal := Ideal.div (ex 20001) (den ex 0 478 * den ex 2 240)

/-- The result's row. -/
def res (ex : Nat → EReal) (y : Nat) : EReal :=
  if y < 20000 then ex y * fac0 ex else if y < 30000 then ex (y + 480) * fac1 ex else ex (y + 720) * fac2 ex

/-- The scratch before step `j`. -/
structure Inv (ex : Fin 512 → Nat → EReal) (z0 : Fin 512 → Fin 256 → EReal) (z1 : Fin 512 → Fin 64 → EReal) (j : Nat)
    (E : Vec Ideal S512x41728 .bf16) (P : Vec Ideal S512x256 .bf16) (Q : Vec Ideal S512x64 .bf16) (A : Vec Ideal S512x384 .f32) (S : Vec Ideal S512x8 .f32) : Prop where
  hE : ∀ (r : Fin 512) (c : Fin 41728), c.val < 1024 * min j 40 → E (ix2 r c) = ex r c
  hP : 20 < j → ∀ (r : Fin 512) (k : Fin 256), P (ix2 r k) = z0 r k
  hQ : 30 < j → ∀ (r : Fin 512) (k : Fin 64), Q (ix2 r k) = z1 r k
  hA : 0 < j → ∀ (r : Fin 512) (g : Fin 3) (l : Fin 128) (c : Fin 384), c.val = 128 * g + l → A (ix2 r c) = part (ex r) j g l
  hS : 19 < j → ∀ r : Fin 512, S (ix2 r 3) = ex r 20000 ∧ S (ix2 r 4) = ex r 20001
  hF : 40 < j → ∀ r : Fin 512, S (ix2 r 0) = fac0 (ex r) ∧ S (ix2 r 1) = fac1 (ex r) ∧ S (ix2 r 2) = fac2 (ex r)

/-- What the input blocks of step `j` hold. -/
structure Inp (ex : Fin 512 → Nat → EReal) (z0 : Fin 512 → Fin 256 → EReal) (z1 : Fin 512 → Fin 64 → EReal) (j : Nat) (v : Vals Ideal) : Prop where
  h : j < 20 → ∀ (r : Fin 512) (c : Fin 1024), Ideal.exp (dot v.x v.h r c) = ex r (1024 * j + c)
  p0 : ∀ (r : Fin 512) (k : Fin 256), dot v.x v.p0 r k = z0 r k
  t0 : 20 ≤ j → j < 30 → ∀ (r : Fin 512) (c : Fin 1024), Ideal.exp (∑ k, z0 r k * v.t0 (ix2 k c)) = ex r (1024 * j + c)
  p1 : ∀ (r : Fin 512) (k : Fin 64), dot v.x v.p1 r k = z1 r k
  t1 : 30 ≤ j → j < 40 → ∀ (r : Fin 512) (c : Fin 1024), Ideal.exp (∑ k, z1 r k * v.t1 (ix2 k c)) = ex r (1024 * j + c)

/-- A part grows by its tile while its steps run. -/
theorem part_grow (ex : Nat → EReal) (j : Nat) (g : Fin 3) (l : Fin 128) (h1 : lo g ≤ j) (h2 : j < hi g) :
    part ex (j + 1) g l = part ex j g l + lanes (fun c => ex (1024 * j + c)) l := by
  unfold part
  rw [min_eq_left (by omega : j + 1 ≤ hi g), min_eq_left (by omega : j ≤ hi g), Finset.sum_Ico_succ_top h1]

/-- And stays outside them. -/
theorem part_stay (ex : Nat → EReal) (j : Nat) (g : Fin 3) (l : Fin 128) (h : j < lo g ∨ hi g ≤ j) :
    part ex (j + 1) g l = part ex j g l := by
  unfold part
  have : lo g < hi g := by fin_cases g <;> decide
  rcases h with h | h
  · rw [Finset.Ico_eq_empty (by omega), Finset.Ico_eq_empty (by omega)]
  · rw [min_eq_right (by omega), min_eq_right (by omega)]

variable {ex : Fin 512 → Nat → EReal} {z0 : Fin 512 → Fin 256 → EReal} {z1 : Fin 512 → Fin 64 → EReal}
variable (c : Dev nD) (i : grid0.Coords) (a : Args) (v : Vals Ideal)

/-- The buffers after the body, as vectors. -/
abbrev E' : Vec Ideal S512x41728 .bf16 := a.E.view.read (Elt Ideal) (out c i a v).2.1
abbrev P' : Vec Ideal S512x256 .bf16 := a.P.view.read (Elt Ideal) (out c i a v).2.2.1
abbrev Q' : Vec Ideal S512x64 .bf16 := a.Q.view.read (Elt Ideal) (out c i a v).2.2.2.1
abbrev A' : Vec Ideal S512x384 .f32 := a.A.view.read (Elt Ideal) (out c i a v).2.2.2.2.1
abbrev S' : Vec Ideal S512x8 .f32 := a.S.view.read (Elt Ideal) (out c i a v).2.2.2.2.2
abbrev o' : Vec Ideal S512x1024 .f32 := a.o.view.read (Elt Ideal) (out c i a v).1

theorem P_step (hv : Inv ex z0 z1 (i 1).val v.E v.P v.Q v.A v.S) (hin : Inp ex z0 z1 (i 1).val v) (h : 20 < (i 1).val + 1)
    (r : Fin 512) (k : Fin 256) : P' c i a v (ix2 r k) = z0 r k := by
  by_cases hj : (i 1).val = 20
  · rw [P', P_first c i a v hj, pay11_at]; exact hin.p0 r k
  · rw [P', P_keep c i a v hj]; exact hv.hP (by omega) r k

theorem Q_step (hv : Inv ex z0 z1 (i 1).val v.E v.P v.Q v.A v.S) (hin : Inp ex z0 z1 (i 1).val v) (h : 30 < (i 1).val + 1)
    (r : Fin 512) (k : Fin 64) : Q' c i a v (ix2 r k) = z1 r k := by
  by_cases hj : (i 1).val = 30
  · rw [Q', Q_first c i a v hj, pay15_at]; exact hin.p1 r k
  · rw [Q', Q_keep c i a v hj]; exact hv.hQ (by omega) r k

/-- The tile of exponentials of a tail step. -/
theorem tail0 (hv : Inv ex z0 z1 (i 1).val v.E v.P v.Q v.A v.S) (hin : Inp ex z0 z1 (i 1).val v) (h : 20 ≤ (i 1).val ∧ (i 1).val < 30)
    (r : Fin 512) (k : Fin 1024) : Ideal.exp (dot (P' c i a v) v.t0 r k) = ex r (1024 * (i 1).val + k) := by
  rw [← hin.t0 h.1 h.2 r k, dot]
  simp only [P_step c i a v hv hin (by omega)]
theorem tail1 (hv : Inv ex z0 z1 (i 1).val v.E v.P v.Q v.A v.S) (hin : Inp ex z0 z1 (i 1).val v) (h : 30 ≤ (i 1).val ∧ (i 1).val < 40)
    (r : Fin 512) (k : Fin 1024) : Ideal.exp (dot (Q' c i a v) v.t1 r k) = ex r (1024 * (i 1).val + k) := by
  rw [← hin.t1 h.1 h.2 r k, dot]
  simp only [Q_step c i a v hv hin (by omega)]

/-- A tile put at its place extends the exponentials by 1024 columns. -/
theorem E_put {E : Vec Ideal S512x41728 .bf16} {j : Nat} (hE : ∀ (r : Fin 512) (c : Fin 41728), c.val < 1024 * min j 40 → E (ix2 r c) = ex r c) (hj : j < 40)
    (w : Vec Ideal S512x1024 .bf16) (hw : ∀ (r : Fin 512) (k : Fin 1024), w (ix2 r k) = ex r (1024 * j + k)) (r : Fin 512) (k : Fin 41728)
    (hk : k.val < 1024 * min (j + 1) 40) : VecWindow.put (s := S512x41728) E ![0, 1024 * j] ![512, 1024] w (ix2 r k) = ex r k := by
  by_cases h : 1024 * j ≤ k.val
  · rw [put_in E w r k ⟨k - 1024 * j, by omega⟩ (by simp only; omega), hw]
    congr 1; simp only; omega
  · rw [put_out E w r k (by omega)]; exact hE r k (by omega)

theorem E_step (hv : Inv ex z0 z1 (i 1).val v.E v.P v.Q v.A v.S) (hin : Inp ex z0 z1 (i 1).val v)
    (r : Fin 512) (k : Fin 41728) (hk : k.val < 1024 * min ((i 1).val + 1) 40) : E' c i a v (ix2 r k) = ex r k := by
  rcases (by omega : (i 1).val < 20 ∨ (20 ≤ (i 1).val ∧ (i 1).val < 30) ∨ (30 ≤ (i 1).val ∧ (i 1).val < 40) ∨ 40 ≤ (i 1).val) with h | h | h | h
  · rw [E', E_head c i a v h]
    exact E_put hv.hE (by omega) _ (fun r k => by rw [pay7_at]; exact hin.h h r k) r k hk
  · rw [E', E_tail0 c i a v h]
    exact E_put hv.hE (by omega) _ (fun r k => by rw [pay13_at]; exact tail0 c i a v hv hin h r k) r k hk
  · rw [E', E_tail1 c i a v h]
    exact E_put hv.hE (by omega) _ (fun r k => by rw [pay17_at]; exact tail1 c i a v hv hin h r k) r k hk
  · rw [E', E_keep c i a v h]
    exact hv.hE r k (by omega)

/-- The fold of a tile added to its part's lanes. -/
theorem A_put {A : Vec Ideal S512x384 .f32} {j : Nat} (g : Fin 3) (h1 : lo g ≤ j) (h2 : j < hi g) (o : Nat) (ho : o = 128 * g) (inb)
    (hA : ∀ (r : Fin 512) (g : Fin 3) (l : Fin 128) (c : Fin 384), c.val = 128 * g + l → A (ix2 r c) = part (ex r) j g l)
    (w : Vec Ideal S512x128 .f32)
    (hw : ∀ (r : Fin 512) (l : Fin 128), w (ix2 r l)
      = VecWindow.window (s := S512x384) A ![0, o] ![512, 128] inb (ix2 r l) + lanes (fun c => ex r (1024 * j + c)) l)
    (r : Fin 512) (g' : Fin 3) (l : Fin 128) (k : Fin 384) (hk : k.val = 128 * g' + l) :
    VecWindow.put (s := S512x384) A ![0, o] ![512, 128] w (ix2 r k) = part (ex r) (j + 1) g' l := by
  subst ho
  by_cases e : g' = g
  · subst e
    rw [put_in A w r k l hk, hw, window_at A inb r l k hk, hA r g' l k hk, part_grow _ _ _ _ h1 h2]
  · have hne : g'.val ≠ g.val := fun h => e (Fin.ext h)
    have : j < lo g' ∨ hi g' ≤ j := by
      revert h1 h2 hne; fin_cases g <;> fin_cases g' <;> simp [lo, hi] <;> omega
    rw [put_out A w r k (by omega), hA r g' l k hk, part_stay _ _ _ _ this]

theorem A_step (hv : Inv ex z0 z1 (i 1).val v.E v.P v.Q v.A v.S) (hin : Inp ex z0 z1 (i 1).val v)
    (r : Fin 512) (g : Fin 3) (l : Fin 128) (k : Fin 384) (hk : k.val = 128 * g + l) : A' c i a v (ix2 r k) = part (ex r) ((i 1).val + 1) g l := by
  rcases (by omega : (i 1).val = 0 ∨ (0 < (i 1).val ∧ (i 1).val < 20) ∨ (20 ≤ (i 1).val ∧ (i 1).val < 30) ∨ (30 ≤ (i 1).val ∧ (i 1).val < 40) ∨ 40 ≤ (i 1).val) with h | h | h | h | h
  · rw [A', A_first c i a v h]
    refine A_put 0 (by rw [h]; decide) (by rw [h]; decide) 0 rfl (by decide) (fun r g l k hk => ?_) _ (fun r l => ?_) r g l k hk
    · rw [pay5_at, part, Finset.Ico_eq_empty (by rw [h]; simp), Finset.sum_empty]
    · rw [pay8_at]; simp only [hin.h (by omega)]
  · rw [A', A_head c i a v h]
    exact A_put 0 (Nat.zero_le _) h.2 0 rfl (by decide) (hv.hA h.1) _ (fun r l => by rw [pay8_at]; simp only [hin.h h.2]) r g l k hk
  · rw [A', A_tail0 c i a v h]
    exact A_put 1 h.1 h.2 128 rfl (by decide) (hv.hA (by omega)) _ (fun r l => by rw [pay14_at]; simp only [tail0 c i a v hv hin h]) r g l k hk
  · rw [A', A_tail1 c i a v h]
    exact A_put 2 h.1 h.2 256 rfl (by decide) (hv.hA (by omega)) _ (fun r l => by rw [pay18_at]; simp only [tail1 c i a v hv hin h]) r g l k hk
  · rw [A', A_keep c i a v h, hv.hA (by omega) r g l k hk, part_stay _ _ _ _ (.inr (by fin_cases g <;> simp [hi] <;> omega))]

/-- The lanes of a part, summed after its last step, less the padding: its denominator. -/
theorem total_den {A : Vec Ideal S512x384 .f32} (r : Fin 512) (hA : ∀ (g : Fin 3) (l : Fin 128) (c : Fin 384), c.val = 128 * g + l → A (ix2 r c) = part (ex r) 40 g l)
    (g : Fin 3) (o : Nat) (ho : o + 128 ≤ 384) (e : o = 128 * g) (n : ℝ) : total (fun l => A (ix2 r l)) o ho n = den (ex r) g n := by
  subst e
  unfold total den
  congr 1
  exact Finset.sum_congr rfl fun l _ => hA g l _ rfl

theorem S_step (hv : Inv ex z0 z1 (i 1).val v.E v.P v.Q v.A v.S) (hin : Inp ex z0 z1 (i 1).val v) (h : 19 < (i 1).val + 1) (r : Fin 512) :
    S' c i a v (ix2 r 3) = ex r 20000 ∧ S' c i a v (ix2 r 4) = ex r 20001 := by
  rcases (by omega : (i 1).val = 19 ∨ (i 1).val = 40 ∨ ((i 1).val ≠ 40 ∧ 20 ≤ (i 1).val)) with h | h | h
  · rw [S', S_pick c i a v h]
    constructor
    · rw [put_out _ _ r 3 (.inl (by decide)), put_in _ _ r 3 0 rfl, pay9_at, hin.h (by omega), h]; rfl
    · rw [put_in _ _ r 4 0 rfl, pay10_at, hin.h (by omega), h]; rfl
  · rw [S', S_norm c i a v h]
    have := hv.hS (by omega) r
    rw [put_out _ _ r 3 (.inr (by decide)), put_out _ _ r 3 (.inr (by decide)), put_out _ _ r 3 (.inr (by decide)),
      put_out _ _ r 4 (.inr (by decide)), put_out _ _ r 4 (.inr (by decide)), put_out _ _ r 4 (.inr (by decide))]
    exact this
  · rw [S', S_keep1 c i a v h]
    exact hv.hS (by omega) r

theorem F_step (hv : Inv ex z0 z1 (i 1).val v.E v.P v.Q v.A v.S) (h : 40 < (i 1).val + 1) (r : Fin 512) :
    S' c i a v (ix2 r 0) = fac0 (ex r) ∧ S' c i a v (ix2 r 1) = fac1 (ex r) ∧ S' c i a v (ix2 r 2) = fac2 (ex r) := by
  by_cases hj : (i 1).val = 40
  · rw [S', S_norm c i a v hj]
    have hA := fun g l k hk => (hv.hA (by omega) r g l k hk).trans (by rw [hj])
    have hS := hv.hS (by omega) r
    refine ⟨?_, ?_, ?_⟩
    · rw [put_out _ _ r 0 (.inl (by decide)), put_out _ _ r 0 (.inl (by decide)), put_in _ _ r 0 0 rfl, pay20_at,
        total_den r hA 0 0 _ rfl, fac0]
    · rw [put_out _ _ r 1 (.inl (by decide)), put_in _ _ r 1 0 rfl, pay21_at, window_at _ _ r 0 3 rfl, hS.1,
        total_den r hA 0 0 _ rfl, total_den r hA 1 128 _ rfl, fac1]
    · rw [put_in _ _ r 2 0 rfl, pay22_at, window_at _ _ r 0 4 rfl, hS.2,
        total_den r hA 0 0 _ rfl, total_den r hA 2 256 _ rfl, fac2]
  · rw [S', S_keep1 c i a v (by omega)]
    exact hv.hF (by omega) r

/-- The body keeps the invariant. -/
theorem inv_step (hv : Inv ex z0 z1 (i 1).val v.E v.P v.Q v.A v.S) (hin : Inp ex z0 z1 (i 1).val v) :
    Inv ex z0 z1 ((i 1).val + 1) (E' c i a v) (P' c i a v) (Q' c i a v) (A' c i a v) (S' c i a v) where
  hE := E_step c i a v hv hin
  hP := P_step c i a v hv hin
  hQ := Q_step c i a v hv hin
  hA := fun _ => A_step c i a v hv hin
  hS := S_step c i a v hv hin
  hF := F_step c i a v hv

/-- Before a row tile's first step nothing is asked. -/
theorem inv_zero (E P Q A S) : Inv ex z0 z1 0 E P Q A S where
  hE := fun _ _ h => absurd h (by simp)
  hP := fun h => absurd h (by decide)
  hQ := fun h => absurd h (by decide)
  hA := fun h => absurd h (by decide)
  hS := fun h => absurd h (by decide)
  hF := fun h => absurd h (by decide)

/-- From step 40 on the output tile is the result's, inside the result. -/
theorem o_step (hv : Inv ex z0 z1 (i 1).val v.E v.P v.Q v.A v.S) (h : 40 ≤ (i 1).val) (r : Fin 512) (k : Fin 1024)
    (hk : 1024 * ((i 1).val - 40) + k.val < 40000) : o' c i a v (ix2 r k) = res (ex r) (1024 * ((i 1).val - 40) + k) := by
  have hS := F_step c i a v hv (by omega) r
  unfold S' at hS
  have hE : ∀ (o : Nat) (ho : o < 40960), v.E (ix2 r ⟨o, by omega⟩) = ex r o := fun o ho => hv.hE r ⟨o, by omega⟩ (by simp only; omega)
  unfold res
  rcases (by omega : (40 ≤ (i 1).val ∧ (i 1).val < 59) ∨ (59 < (i 1).val ∧ (i 1).val < 69) ∨ 69 < (i 1).val ∨ ((i 1).val = 59 ∨ (i 1).val = 69)) with h | h | h | h
  · rw [o', o_head c i a v h, if_pos (by omega), pay1_at, window_at _ _ r k ⟨1024 * ((i 1).val - 40) + k, by omega⟩ rfl, hE _ (by omega), window_at _ _ r 0 0 rfl, hS.1]
  · rw [o', o_tail0 c i a v h, if_neg (by omega), if_pos (by omega), pay2_at,
      window_at _ _ r ⟨96 + k, _⟩ ⟨1024 * ((i 1).val - 40) + k + 480, by omega⟩ (by simp only; omega), hE _ (by omega), window_at _ _ r 0 1 rfl, hS.2.1]
  · rw [o', o_tail1 c i a v h, if_neg (by omega), if_neg (by omega), pay3_at,
      window_at _ _ r ⟨80 + k, _⟩ ⟨1024 * ((i 1).val - 40) + k + 720, by omega⟩ (by simp only; omega), hE _ (by omega), window_at _ _ r 0 2 rfl, hS.2.2]
  · rw [o', o_mixed c i a v h, pay4_at _ (by omega),
      window_at _ _ r k ⟨1024 * ((i 1).val - 40) + k, by omega⟩ rfl, window_at _ _ r ⟨96 + k, _⟩ ⟨1024 * ((i 1).val - 40) + k + 480, by omega⟩ (by simp only; omega),
      window_at _ _ r ⟨80 + k, _⟩ ⟨1024 * ((i 1).val - 40) + k + 720, by omega⟩ (by simp only; omega),
      hE _ (by omega), hE _ (by omega), hE _ (by omega), window_at _ _ r 0 0 rfl, window_at _ _ r 0 1 rfl, window_at _ _ r 0 2 rfl, hS.1, hS.2.1, hS.2.2]

end Cert.KernelIdeal.Value

end
-- ==== Proof.Mats.lean ====
/- The matrices both programs start from, as plain functions over the extended reals, the hidden rows and the logits they
   give, and the contents of the kernel's input arrays (the padded ones among them) in their terms. -/
module

public import proofs.«01_k».proof.Proof.Gen.KernelIdeal.Frame
public import Idealize.ShloMosaic.Lib.Claim
public import Idealize.ShloMosaic.Lib.Pointwise
public import Idealize.ShloMosaic.Lib.KernelVsHost

@[expose] public section

set_option maxRecDepth 16384

noncomputable section

namespace Cert.KernelIdeal.Value

open Idealize.ShloMosaic Idealize.ShloMosaic.TcCoe
open Cert.KernelIdeal.Gen

/-- The six matrices used: the rows, the head's weights, and each tail's projection and weights. A weight matrix is a
    function of every column number, zero from its last column on. -/
structure Mats where
  x : Fin 2048 → Fin 1024 → EReal
  wh : Fin 1024 → Nat → EReal
  p0 : Fin 1024 → Fin 256 → EReal
  w0 : Fin 256 → Nat → EReal
  p1 : Fin 1024 → Fin 64 → EReal
  w1 : Fin 64 → Nat → EReal

namespace Mats

variable (M : Mats)

/-- A row projected for the first tail, -/
def z0 (ρ : Fin 2048) (k : Fin 256) : EReal := ∑ i, M.x ρ i * M.p0 i k
/-- and for the second. -/
def z1 (ρ : Fin 2048) (k : Fin 64) : EReal := ∑ i, M.x ρ i * M.p1 i k
/-- The head's logit of a row and a column, -/
def lh (ρ : Fin 2048) (y : Nat) : EReal := ∑ k, M.x ρ k * M.wh k y
/-- the first tail's, -/
def l0 (ρ : Fin 2048) (y : Nat) : EReal := ∑ k, M.z0 ρ k * M.w0 k y
/-- the second's. -/
def l1 (ρ : Fin 2048) (y : Nat) : EReal := ∑ k, M.z1 ρ k * M.w1 k y
/-- The exponentials of a row as the kernel lays them out: the head's in columns 0 to 20479, the tails' from columns 20480
    and 30720 on. -/
def ex (ρ : Fin 2048) (y : Nat) : EReal :=
  if y < 20480 then Ideal.exp (M.lh ρ y) else if y < 30720 then Ideal.exp (M.l0 ρ (y - 20480)) else Ideal.exp (M.l1 ρ (y - 30720))

end Mats

/-- The matrices six argument arrays give. -/
def matsOf (x : Vec Ideal S1x2048x1024 .f32) (wh : Vec Ideal S1024x20002 .f32) (p0 : Vec Ideal S1024x256 .f32) (w0 : Vec Ideal S256x10000 .f32)
    (p1 : Vec Ideal S1024x64 .f32) (w1 : Vec Ideal S64x10000 .f32) : Mats where
  x ρ k := x (ix3 0 ρ k)
  wh k y := if h : y < 20002 then wh (ix2 k ⟨y, h⟩) else 0
  p0 k l := p0 (ix2 k l)
  w0 k y := if h : y < 10000 then w0 (ix2 k ⟨y, h⟩) else 0
  p1 k l := p1 (ix2 k l)
  w1 k y := if h : y < 10000 then w1 (ix2 k ⟨y, h⟩) else 0

variable (m : (ℓ : Loc nD τ sig) → Buf (Elt Ideal) ℓ) (c : Dev nD)

/-- The kernel's. -/
def mats : Mats :=
  matsOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

/-- Columns padded on the right by a value that is zero, at an index. -/
theorem pad_cols {K N P n : Nat} (x : (⟨2, ![K, N]⟩ : Shape).Idx → EReal) {u : Shape} (v : u.Idx → EReal) (hv : ∀ i, v i = 0) (h) (hu) (k : Fin K)
    (y : Fin P) : pad ⟨2, ![K, P]⟩ ![0, 0] ![0, n] ![0, 0] x v h hu (ix2 k y) = if hy : y.val < N then x (ix2 k ⟨y, hy⟩) else 0 := by
  by_cases hy : y.val < N
  · rw [dif_pos hy]
    refine pad_apply_of_inside _ _ _ _ _ _ _ _ _ fun a => ?_
    fin_cases a
    · show k.val = 0 + k.val * 1
      omega
    · show y.val = 0 + y.val * 1
      omega
  · rw [dif_neg hy, ← hv (Shape.Idx.first hu)]
    refine pad_apply_of_not_inside _ _ _ _ _ _ _ _ 1 fun h' => hy ?_
    have h2 : (y.val - 0) / 1 < N := h'.2.2
    omega

theorem zero_i32 (i : S_.Idx) : (sitofp .bf16 (constantI S_ 32 0#32) : FVec Ideal S_ .bf16) i = (0 : EReal) := by
  show (((0#32 : BitVec 32).toInt : ℝ) : EReal) = 0
  simp

theorem V_x (ρ : Fin 2048) (k : Fin 1024) : (V m c main_v1 : Vec Ideal S2048x1024 .bf16) (ix2 ρ k) = (mats m c).x ρ k := by
  simp only [V, V0, hostOps0, hostOps0_1, hostOps0_2, hostOps0_3, hostOps0_4, hostOps0_5, List.flatten_cons, List.flatten_nil, List.append_nil,
    List.cons_append, List.nil_append]
  after_results_simp
  unfold mats matsOf
  pointwise []
theorem V_p0 (k : Fin 1024) (l : Fin 256) : (V m c main_v4 : Vec Ideal S1024x256 .bf16) (ix2 k l) = (mats m c).p0 k l := by
  simp only [V, V0, hostOps0, hostOps0_1, hostOps0_2, hostOps0_3, hostOps0_4, hostOps0_5, List.flatten_cons, List.flatten_nil, List.append_nil,
    List.cons_append, List.nil_append]
  after_results_simp
  unfold mats matsOf
  pointwise []
theorem V_p1 (k : Fin 1024) (l : Fin 64) : (V m c main_v7 : Vec Ideal S1024x64 .bf16) (ix2 k l) = (mats m c).p1 k l := by
  simp only [V, V0, hostOps0, hostOps0_1, hostOps0_2, hostOps0_3, hostOps0_4, hostOps0_5, List.flatten_cons, List.flatten_nil, List.append_nil,
    List.cons_append, List.nil_append]
  after_results_simp
  unfold mats matsOf
  pointwise []
theorem V_wh (k : Fin 1024) (y : Fin 20480) : (V m c main_v3 : Vec Ideal S1024x20480 .bf16) (ix2 k y) = (mats m c).wh k y := by
  simp only [V, V0, hostOps0, hostOps0_1, hostOps0_2, hostOps0_3, hostOps0_4, hostOps0_5, List.flatten_cons, List.flatten_nil, List.append_nil,
    List.cons_append, List.nil_append]
  after_results_simp
  exact pad_cols (m (c, Proc.tc.devRef main_arg2) : Vec Ideal S1024x20002 .f32) _ zero_i32 pads_S1024x20002_S1024x20480_000_04780 h_S_ k y
theorem V_w0 (k : Fin 256) (y : Fin 10240) : (V m c main_v6 : Vec Ideal S256x10240 .bf16) (ix2 k y) = (mats m c).w0 k y := by
  simp only [V, V0, hostOps0, hostOps0_1, hostOps0_2, hostOps0_3, hostOps0_4, hostOps0_5, List.flatten_cons, List.flatten_nil, List.append_nil,
    List.cons_append, List.nil_append]
  after_results_simp
  exact pad_cols (m (c, Proc.tc.devRef main_arg4) : Vec Ideal S256x10000 .f32) _ zero_i32 pads_S256x10000_S256x10240_000_02400 h_S_ k y
theorem V_w1 (k : Fin 64) (y : Fin 10240) : (V m c main_v9 : Vec Ideal S64x10240 .bf16) (ix2 k y) = (mats m c).w1 k y := by
  simp only [V, V0, hostOps0, hostOps0_1, hostOps0_2, hostOps0_3, hostOps0_4, hostOps0_5, List.flatten_cons, List.flatten_nil, List.append_nil,
    List.cons_append, List.nil_append]
  after_results_simp
  exact pad_cols (m (c, Proc.tc.devRef main_arg6) : Vec Ideal S64x10000 .f32) _ zero_i32 pads_S64x10000_S64x10240_000_02400 h_S_ k y

end Cert.KernelIdeal.Value
-- ==== Proof.Blocks.lean ====
/- What the input windows' blocks hold at a grid point, in terms of the kernel's matrices: at step `j` of row tile `b` the
   body multiplies the tile's rows with the weight columns of that step. -/
module

public import proofs.«01_k».proof.Proof.Inv
public import proofs.«01_k».proof.Proof.Mats
public import proofs.«01_k».proof.Proof.Frame

@[expose] public section

set_option maxRecDepth 16384

noncomputable section

namespace Cert.KernelIdeal.Value

open Idealize.ShloMosaic Idealize.ShloMosaic.TcCoe
open Cert.KernelIdeal.Gen Cert.KernelIdeal.Body Cert.KernelIdeal.Pay

variable (m : (ℓ : Loc nD τ sig) → Buf (Elt Ideal) ℓ) (c : Dev nD) (t : Fin cfg0.N)

/-! ### Where a point is and where its blocks lie -/

/-- The grid is walked a row tile at a time, eighty steps to a tile. -/
theorem coord0 : ((grid0.coords t) 0).val = t.val / 80 := by
  revert t; decide +kernel
theorem coord1 : ((grid0.coords t) 1).val = t.val % 80 := by
  revert t; decide +kernel

theorem at0 : win0_0.index t 0 = t.val / 80 ∧ win0_0.index t 1 = 0 := by
  revert t; decide +kernel
theorem at1 : win0_1.index t 0 = 0 ∧ win0_1.index t 1 = min (t.val % 80) 19 := by
  revert t; decide +kernel
theorem at2 : win0_2.index t 0 = 0 ∧ win0_2.index t 1 = 0 := by
  revert t; decide +kernel
theorem at3 : win0_3.index t 0 = 0 ∧ win0_3.index t 1 = min 9 (t.val % 80 - 20) := by
  revert t; decide +kernel
theorem at4 : win0_4.index t 0 = 0 ∧ win0_4.index t 1 = 0 := by
  revert t; decide +kernel
theorem at5 : win0_5.index t 0 = 0 ∧ win0_5.index t 1 = min 9 (t.val % 80 - 30) := by
  revert t; decide +kernel
theorem at6 : win0_6.index t 0 = t.val / 80 ∧ win0_6.index t 1 = t.val % 80 - 40 := by
  revert t; decide +kernel

theorem lt_N : t.val < 320 := t.isLt

/-- Row `r` of the tile of point `t`. -/
def row (r : Fin 512) : Fin 2048 := ⟨512 * (t.val / 80) + r, by have := lt_N t; omega⟩

/-! ### The blocks -/

theorem blk_x (r : Fin 512) (k : Fin 1024) : (iblk m c 0 t : Vec Ideal S512x1024 .bf16) (ix2 r k) = (mats m c).x (row t r) k := by
  rw [← V_x]
  unfold iblk
  rw [View.read_apply]
  show V m c main_v1 _ = V m c main_v1 _
  congr 1
  funext a
  apply Fin.ext
  match a with
  | ⟨0, _⟩ => show win0_0.index t 0 * 512 + 1 * r.val = 512 * (t.val / 80) + r.val; rw [(at0 t).1]; omega
  | ⟨1, _⟩ => show win0_0.index t 1 * 1024 + 1 * k.val = k.val; rw [(at0 t).2]; omega

theorem blk_wh (h : t.val % 80 < 20) (k : Fin 1024) (l : Fin 1024) : (iblk m c 1 t : Vec Ideal S1024x1024 .bf16) (ix2 k l) = (mats m c).wh k (1024 * (t.val % 80) + l) := by
  refine Eq.trans ?_ (V_wh m c k ⟨1024 * (t.val % 80) + l, by omega⟩)
  unfold iblk
  rw [View.read_apply]
  show V m c main_v3 _ = V m c main_v3 _
  congr 1
  funext a
  apply Fin.ext
  match a with
  | ⟨0, _⟩ => show win0_1.index t 0 * 1024 + 1 * k.val = k.val; rw [(at1 t).1]; omega
  | ⟨1, _⟩ => show win0_1.index t 1 * 1024 + 1 * l.val = 1024 * (t.val % 80) + l.val; rw [(at1 t).2]; omega

theorem blk_p0 (k : Fin 1024) (l : Fin 256) : (iblk m c 2 t : Vec Ideal S1024x256 .bf16) (ix2 k l) = (mats m c).p0 k l := by
  rw [← V_p0]
  unfold iblk
  rw [View.read_apply]
  show V m c main_v4 _ = V m c main_v4 _
  congr 1
  funext a
  apply Fin.ext
  match a with
  | ⟨0, _⟩ => show win0_2.index t 0 * 1024 + 1 * k.val = k.val; rw [(at2 t).1]; omega
  | ⟨1, _⟩ => show win0_2.index t 1 * 256 + 1 * l.val = l.val; rw [(at2 t).2]; omega

theorem blk_w0 (h : 20 ≤ t.val % 80) (h' : t.val % 80 < 30) (k : Fin 256) (l : Fin 1024) : (iblk m c 3 t : Vec Ideal S256x1024 .bf16) (ix2 k l) = (mats m c).w0 k (1024 * (t.val % 80 - 20) + l) := by
  refine Eq.trans ?_ (V_w0 m c k ⟨1024 * (t.val % 80 - 20) + l, by omega⟩)
  unfold iblk
  rw [View.read_apply]
  show V m c main_v6 _ = V m c main_v6 _
  congr 1
  funext a
  apply Fin.ext
  match a with
  | ⟨0, _⟩ => show win0_3.index t 0 * 256 + 1 * k.val = k.val; rw [(at3 t).1]; omega
  | ⟨1, _⟩ => show win0_3.index t 1 * 1024 + 1 * l.val = 1024 * (t.val % 80 - 20) + l.val; rw [(at3 t).2]; omega

theorem blk_p1 (k : Fin 1024) (l : Fin 64) : (iblk m c 4 t : Vec Ideal S1024x64 .bf16) (ix2 k l) = (mats m c).p1 k l := by
  rw [← V_p1]
  unfold iblk
  rw [View.read_apply]
  show V m c main_v7 _ = V m c main_v7 _
  congr 1
  funext a
  apply Fin.ext
  match a with
  | ⟨0, _⟩ => show win0_4.index t 0 * 1024 + 1 * k.val = k.val; rw [(at4 t).1]; omega
  | ⟨1, _⟩ => show win0_4.index t 1 * 64 + 1 * l.val = l.val; rw [(at4 t).2]; omega

theorem blk_w1 (h : 30 ≤ t.val % 80) (h' : t.val % 80 < 40) (k : Fin 64) (l : Fin 1024) : (iblk m c 5 t : Vec Ideal S64x1024 .bf16) (ix2 k l) = (mats m c).w1 k (1024 * (t.val % 80 - 30) + l) := by
  refine Eq.trans ?_ (V_w1 m c k ⟨1024 * (t.val % 80 - 30) + l, by omega⟩)
  unfold iblk
  rw [View.read_apply]
  show V m c main_v9 _ = V m c main_v9 _
  congr 1
  funext a
  apply Fin.ext
  match a with
  | ⟨0, _⟩ => show win0_5.index t 0 * 64 + 1 * k.val = k.val; rw [(at5 t).1]; omega
  | ⟨1, _⟩ => show win0_5.index t 1 * 1024 + 1 * l.val = 1024 * (t.val % 80 - 30) + l.val; rw [(at5 t).2]; omega

/-! ### What a point's step is given -/

/-- The exponentials of the rows of the point's tile, and their two projections. -/
def exT (r : Fin 512) : Nat → EReal := (mats m c).ex (row t r)
def z0T (r : Fin 512) : Fin 256 → EReal := (mats m c).z0 (row t r)
def z1T (r : Fin 512) : Fin 64 → EReal := (mats m c).z1 (row t r)

/-- The buffers' contents when the body starts at point `t` from output contents `X` and scratch contents `s`. -/
def valsAt (X : Vec Ideal S512x1024 .f32) (s : Scratch Ideal) : Vals Ideal :=
  ⟨iblk m c 0 t, iblk m c 1 t, iblk m c 2 t, iblk m c 3 t, iblk m c 4 t, iblk m c 5 t, X, s.E, s.P, s.Q, s.A, s.S⟩

theorem inp_at (X : Vec Ideal S512x1024 .f32) (s : Scratch Ideal) :
    Inp (exT m c t) (z0T m c t) (z1T m c t) (t.val % 80) (valsAt m c t X s) where
  h h r l := by
    unfold exT Mats.ex Mats.lh dot valsAt
    rw [if_pos (by omega)]
    refine congrArg Ideal.exp (Finset.sum_congr rfl fun k _ => ?_)
    exact congrArg₂ (· * ·) (blk_x m c t r k) (blk_wh m c t h k l)
  p0 r l := by
    unfold z0T Mats.z0 dot valsAt
    refine Finset.sum_congr rfl fun k _ => ?_
    exact congrArg₂ (· * ·) (blk_x m c t r k) (blk_p0 m c t k l)
  t0 h h' r l := by
    unfold exT Mats.ex Mats.l0 valsAt
    rw [if_neg (by omega), if_pos (by omega)]
    refine congrArg Ideal.exp (Finset.sum_congr rfl fun k _ => ?_)
    rw [show 1024 * (t.val % 80) + l.val - 20480 = 1024 * (t.val % 80 - 20) + l.val from by omega]
    exact congrArg₂ (· * ·) rfl (blk_w0 m c t h h' k l)
  p1 r l := by
    unfold z1T Mats.z1 dot valsAt
    refine Finset.sum_congr rfl fun k _ => ?_
    exact congrArg₂ (· * ·) (blk_x m c t r k) (blk_p1 m c t k l)
  t1 h h' r l := by
    unfold exT Mats.ex Mats.l1 valsAt
    rw [if_neg (by omega), if_neg (by omega)]
    refine congrArg Ideal.exp (Finset.sum_congr rfl fun k _ => ?_)
    rw [show 1024 * (t.val % 80) + l.val - 30720 = 1024 * (t.val % 80 - 30) + l.val from by omega]
    exact congrArg₂ (· * ·) rfl (blk_w1 m c t h h' k l)

end Cert.KernelIdeal.Value
-- ==== Proof.Trace.lean ====
/- The kernel's run with its output followed: between two grid points the scratch holds what `Inv` says of the row tile the
   next point belongs to, and every point from a tile's step 40 on leaves its block of the result. -/
module

public import proofs.«01_k».proof.Proof.Blocks
public import Idealize.ShloMosaic.Lib.Pipeline.Value

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.KernelIdeal.Gen Cert.KernelIdeal.Body Cert.KernelIdeal.Pay

local notation "𝕄" => MT nD τ sig Unit (Elt Ideal) ℕ (UR sig nD τ) ℕ

variable (m : (ℓ : Loc nD τ sig) → Buf (Elt Ideal) ℓ) (ρ : Dev nD → PrngReg) (c : Dev nD)

/-! ### The scratch between points -/

/-- What the scratch holds before point `n`. -/
def InvAt (n : Nat) (s : Scratch Ideal) : Prop :=
  ∀ t : Fin cfg0.N, t.val = n → Inv (exT m c t) (z0T m c t) (z1T m c t) (t.val % 80) s.E s.P s.Q s.A s.S

/-- Nothing is asked before a tile's first step. -/
theorem InvAt.first {n : Nat} (h : n % 80 = 0) (s : Scratch Ideal) : InvAt m c n s := by
  intro t ht
  rw [ht, h]
  exact inv_zero _ _ _ _ _

/-- The buffers the body is called with at point `t`. -/
def argsAt (t : Fin cfg0.N) : Args :=
  ⟨st0_0 t, hstage0_0 ((cfg0.slots t 0).cast nbuf0_0), st0_1 t, hstage0_1 ((cfg0.slots t 1).cast nbuf0_1),
    st0_2 t, hstage0_2 ((cfg0.slots t 2).cast nbuf0_2), st0_3 t, hstage0_3 ((cfg0.slots t 3).cast nbuf0_3),
    st0_4 t, hstage0_4 ((cfg0.slots t 4).cast nbuf0_4), st0_5 t, hstage0_5 ((cfg0.slots t 5).cast nbuf0_5),
    st0_6 t, hstage0_6 ((cfg0.slots t 6).cast nbuf0_6), scE, Memref.isWhole_whole _, scP, Memref.isWhole_whole _,
    scQ, Memref.isWhole_whole _, scA, Memref.isWhole_whole _, scS, Memref.isWhole_whole _⟩

variable (t : Fin cfg0.N) (X : Vec Ideal S512x1024 .f32) (s : Scratch Ideal)

theorem stepOut_eq : stepOut m c t X s = out c (grid0.coords t) (argsAt t) (valsAt m c t X s) := rfl

/-- The step lemmas at a named step. -/
theorem inv_step_at {ex : Fin 512 → Nat → EReal} {z0 : Fin 512 → Fin 256 → EReal} {z1 : Fin 512 → Fin 64 → EReal} (i : grid0.Coords) (a : Args)
    (v : Vals Ideal) (j : Nat) (hi : (i 1).val = j) (hv : Inv ex z0 z1 j v.E v.P v.Q v.A v.S) (hin : Inp ex z0 z1 j v) :
    Inv ex z0 z1 (j + 1) (E' c i a v) (P' c i a v) (Q' c i a v) (A' c i a v) (S' c i a v) := by
  subst hi
  exact inv_step c i a v hv hin

theorem o_step_at {ex : Fin 512 → Nat → EReal} {z0 : Fin 512 → Fin 256 → EReal} {z1 : Fin 512 → Fin 64 → EReal} (i : grid0.Coords) (a : Args)
    (v : Vals Ideal) (j : Nat) (hi : (i 1).val = j) (hv : Inv ex z0 z1 j v.E v.P v.Q v.A v.S) (h : 40 ≤ j) (r : Fin 512) (k : Fin 1024)
    (hk : 1024 * (j - 40) + k.val < 40000) : o' c i a v (ix2 r k) = res (ex r) (1024 * (j - 40) + k) := by
  subst hi
  exact o_step c i a v hv h r k hk

theorem next_eq : next m c t X s = ⟨E' c (grid0.coords t) (argsAt t) (valsAt m c t X s), P' c (grid0.coords t) (argsAt t) (valsAt m c t X s),
    Q' c (grid0.coords t) (argsAt t) (valsAt m c t X s), A' c (grid0.coords t) (argsAt t) (valsAt m c t X s),
    S' c (grid0.coords t) (argsAt t) (valsAt m c t X s)⟩ := by
  unfold next
  rw [stepOut_eq]
  rfl

theorem outBlk_eq : outBlk m c t X s = o' c (grid0.coords t) (argsAt t) (valsAt m c t X s) := by
  unfold outBlk
  rw [stepOut_eq]
  rfl

/-- The point's step keeps it. -/
theorem InvAt.next (h : InvAt m c t.val s) : InvAt m c (t.val + 1) (next m c t X s) := by
  intro t' ht'
  by_cases h0 : (t.val + 1) % 80 = 0
  · exact InvAt.first m c h0 _ t' ht'
  have hrow : row t' = row t := by
    funext r
    refine Fin.ext ?_
    show 512 * (t'.val / 80) + r.val = 512 * (t.val / 80) + r.val
    omega
  have hj : t'.val % 80 = t.val % 80 + 1 := by omega
  have hn := inv_step_at c (grid0.coords t) (argsAt t) (valsAt m c t X s) (t.val % 80) (coord1 t) (h t rfl) (inp_at m c t X s)
  unfold exT z0T z1T at hn ⊢
  rw [hrow, hj, next_eq]
  exact hn

/-- From step 40 on the point leaves its block of the result. -/
theorem outBlk_at (h : InvAt m c t.val s) (hj : 40 ≤ t.val % 80) (r : Fin 512) (k : Fin 1024) (hk : 1024 * (t.val % 80 - 40) + k.val < 40000) :
    outBlk m c t X s (ix2 r k) = res (exT m c t r) (1024 * (t.val % 80 - 40) + k) := by
  rw [outBlk_eq]
  exact o_step_at c (grid0.coords t) (argsAt t) (valsAt m c t X s) (t.val % 80) (coord1 t) (h t rfl) hj r k hk

/-- Before it the output buffer is left alone. -/
theorem outBlk_idle (hj : t.val % 80 < 40) : outBlk m c t X s = X := by
  rw [outBlk_eq]
  exact o_keep c (grid0.coords t) (argsAt t) (valsAt m c t X s) ((coord1 t).trans_lt hj)

end Cert.KernelIdeal.Value
-- ==== Proof.Launch.lean ====
/- The body obligation with the output followed, the launch, and the result array at an index. -/
module

public import proofs.«01_k».proof.Proof.Trace

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.KernelIdeal.Gen Cert.KernelIdeal.Body

local notation "𝕄" => MT nD τ sig Unit (Elt Ideal) ℕ (UR sig nD τ) ℕ

variable (m : (ℓ : Loc nD τ sig) → Buf (Elt Ideal) ℓ) (ρ : Dev nD → PrngReg) (c : Dev nD) (t : Fin cfg0.N)

/-! ### The output window's schedule -/

/-- The output block is cut at the array's last column. -/
theorem cut6 : win0_6.xsize (grid0.coords t) 0 = 512 ∧ win0_6.xsize (grid0.coords t) 1 = min 1024 (40000 - 1024 * (t.val % 80 - 40)) := by
  revert t; decide +kernel
/-- It is written back from step 40 on, -/
theorem flush6 : win0_6.flush t = decide (40 ≤ t.val % 80) := by
  revert t; decide +kernel
/-- and left alone before. -/
theorem idle6 : idle0 6 (grid0.coords t) = decide (t.val % 80 < 40) := by
  revert t; decide +kernel

/-! ### The body obligation -/

/-- What the body leaves in the output block at a point: its block of the result. -/
def outV (c : Dev nD) (t : Fin cfg0.N) : S512x1024.Idx → EReal := fun j => res (exT m c t (j 0)) (1024 * (t.val % 80 - 40) + (j 1).val)

/-- What is said of the scratch before point `n`. -/
def PhiV (c : Dev nD) (n : Fin (cfg0.N + 1)) : sProp 𝕄 := iprop(∃ s : Scratch Ideal, ⌜InvAt m c n.val s⌝ ∗ scr c s)

abbrev datV := dat m (outV m) (PhiV m)

/-- What the obligation asks of the output's buffer after point `t`. -/
def left6 : sProp 𝕄 :=
  match idle0 6 (grid0.coords t) with
  | true => match win0_6.flush t with
    | false => iprop(∃ d, ow c (st0_6 t) ((datV m 0 c).before 6 t d))
    | true => iprop(∃ d, ow c (st0_6 t) (win0_6.fill (grid0.coords t) d (win0_6.cut (grid0.coords t) (outV m c t))))
  | false => iprop(∃ d, ow c (st0_6 t) (win0_6.fill (grid0.coords t) d (win0_6.cut (grid0.coords t) (outV m c t))))

/-- The block the body leaves meets it. -/
theorem left6_of (s : Scratch Ideal) (h : InvAt m c t.val s) (d) :
    ow c (st0_6 t) (outBlk m c t ((datV m 0 c).before 6 t d) s) ⊢ left6 m c t := by
  generalize hX : (datV m 0 c).before 6 t d = X
  unfold left6
  rw [idle6, flush6]
  by_cases hj : t.val % 80 < 40
  · rw [decide_eq_true hj, decide_eq_false (by omega : ¬ 40 ≤ t.val % 80), outBlk_idle m c t X s hj, ← hX]
    iintro H
    iexists d
    iexact H
  · rw [decide_eq_false hj]
    have e : win0_6.fill (grid0.coords t) (outBlk m c t X s) (win0_6.cut (grid0.coords t) (outV m c t)) = outBlk m c t X s := by
      refine win0_6.fill_congr_cut _ (funext fun j => ?_)
      have h1 : (j 1).val < win0_6.xsize (grid0.coords t) 1 := (j 1).isLt
      rw [(cut6 t).2] at h1
      have h0 : (j 0).val < win0_6.xsize (grid0.coords t) 0 := (j 0).isLt
      rw [(cut6 t).1] at h0
      have hx : (win0_6.xinj (grid0.coords t) j : S512x1024.Idx) = ix2 ⟨(j 0).val, h0⟩ ⟨(j 1).val, by omega⟩ := eq_ix2 _
      show outBlk m c t X s (win0_6.xinj (grid0.coords t) j) = outV m c t (win0_6.xinj (grid0.coords t) j)
      rw [hx]
      exact outBlk_at m c t X s h (by omega) _ _ (by show 1024 * (t.val % 80 - 40) + (j 1).val < 40000; omega)
    iintro H
    iexists (outBlk m c t X s)
    rw [e]
    iexact H

/-- The body obligation. -/
theorem obligationV : BodyObligationLoose (datV m 0 c) (defs₀ (F := Ideal)) Variants.none () Set.univ := by
  intro t
  rw [bigSep_W0, bigSep_W0]
  unfold defs₀
  rw [Defs.onTc_tc]
  change iprop(PhiV m c t.castSucc ∗ (datV m 0 c).owesAt () t.castSucc
      ∗ (∃ d, ow c (st0_0 t) ((datV m 0 c).before 0 t d)) ∗ (∃ d, ow c (st0_1 t) ((datV m 0 c).before 1 t d))
      ∗ (∃ d, ow c (st0_2 t) ((datV m 0 c).before 2 t d)) ∗ (∃ d, ow c (st0_3 t) ((datV m 0 c).before 3 t d))
      ∗ (∃ d, ow c (st0_4 t) ((datV m 0 c).before 4 t d)) ∗ (∃ d, ow c (st0_5 t) ((datV m 0 c).before 5 t d))
      ∗ (∃ d, ow c (st0_6 t) ((datV m 0 c).before 6 t d)))
    ⊢ wp frame (wpE (defs₀ (F := Ideal)) Variants.none c none) Set.univ (bodyAt0 t) (fun _ =>
      iprop(PhiV m c t.succ ∗ (datV m 0 c).owesAt () t.castSucc
      ∗ ow c (st0_0 t) (iblk m c 0 t) ∗ ow c (st0_1 t) (iblk m c 1 t) ∗ ow c (st0_2 t) (iblk m c 2 t)
      ∗ ow c (st0_3 t) (iblk m c 3 t) ∗ ow c (st0_4 t) (iblk m c 4 t) ∗ ow c (st0_5 t) (iblk m c 5 t) ∗ left6 m c t))
  refine (Idealize.SL.BI.Laws.sep_mono .rfl (Idealize.SL.BI.Laws.sep_mono .rfl (before_in m _ _ c t _))).trans ?_
  unfold PhiV
  iintro ⟨⟨%s, ⟨%hs, Hs⟩⟩, HR, H0, H1, H2, H3, H4, H5, ⟨%d, H6⟩⟩
  iapply (triple_restated (step_frame m c t ((datV m 0 c).before 6 t d) s ((datV m 0 c).owesAt () t.castSucc)) rfl .rfl fun _ => ?_)
  rotate_left
  · isplitl [Hs]; · iexact Hs
    isplitl [HR]; · iexact HR
    isplitl [H0]; · iexact H0
    isplitl [H1]; · iexact H1
    isplitl [H2]; · iexact H2
    isplitl [H3]; · iexact H3
    isplitl [H4]; · iexact H4
    isplitl [H5]; · iexact H5
    iexact H6
  · iintro ⟨Hs, HR, H0, H1, H2, H3, H4, H5, H6⟩
    isplitl [Hs]
    · iexists (next m c t ((datV m 0 c).before 6 t d) s)
      isplitr
      · ipureintro
        exact hs.next m c t _ s
      iexact Hs
    isplitl [HR]; · iexact HR
    isplitl [H0]; · iexact H0
    isplitl [H1]; · iexact H1
    isplitl [H2]; · iexact H2
    isplitl [H3]; · iexact H3
    isplitl [H4]; · iexact H4
    isplitl [H5]; · iexact H5
    iapply (left6_of m c t s hs d)
    iexact H6

theorem PhiV_in : Pipeline.ΦA spec0 c ⊢ PhiV m c 0 := by
  refine (PhiA_split c).trans ?_
  unfold PhiV
  iintro ⟨%s, Hs⟩
  iexists s
  isplitr
  · ipureintro
    exact InvAt.first m c rfl s
  iexact Hs

theorem PhiV_out (n : Fin (cfg0.N + 1)) : PhiV m c n ⊢ (Pipeline.ΦA spec0 c : sProp 𝕄) := by
  unfold PhiV
  iintro ⟨%s, ⟨%_, Hs⟩⟩
  iapply (PhiA_join c s)
  iexact Hs

/-! ### The result array -/

/-- What the kernel's output array is shown to hold. -/
def G (c : Dev nD) : Vec Ideal S2048x40000 .f32 := fun i => res ((mats m c).ex (i 0)) (i 1).val

/-- Every block written back is its part of it. -/
theorem flushedV (hf : win0_6.flush t = true) : (datV m 0 c).flushed 6 t = (win0_6.blk t).view.read (Elt Ideal) (G m c) := by
  rw [flush6, decide_eq_true_iff] at hf
  funext j
  rw [View.read_apply]
  have h0 : (((win0_6.blk t).view.emb j : S2048x40000.Idx) 0).val = 512 * (t.val / 80) + (j 0).val := by
    show win0_6.index t 0 * 512 + 1 * (j 0).val = _
    rw [(at6 t).1]; omega
  have h1 : (((win0_6.blk t).view.emb j : S2048x40000.Idx) 1).val = 1024 * (t.val % 80 - 40) + (j 1).val := by
    show win0_6.index t 1 * 1024 + 1 * (j 1).val = _
    rw [(at6 t).2]; omega
  show outV m c t (win0_6.xinj (grid0.coords t) j) = G m c ((win0_6.blk t).view.emb j)
  unfold outV G exT
  rw [h1]
  congr 2
  exact Fin.ext h0.symm

theorem mem_blk6 (i : S2048x40000.Idx) : i ∈ (win0_6.blk t).view.set ↔
    (512 * (t.val / 80) ≤ (i 0).val ∧ (i 0).val < 512 * (t.val / 80) + 512) ∧ 1024 * (t.val % 80 - 40) ≤ (i 1).val ∧ (i 1).val < 1024 * (t.val % 80 - 40) + 1024 := by
  show i ∈ ((View.whole main_v10).slice (win0_6.rect t)).set ↔ _
  rw [View.set_slice_whole, Rect.mem_set_unit]
  have hi1 : (i 1).val < 40000 := (i 1).isLt
  have e := cut6 t
  have a := at6 t
  have h (k : Fin 2) (o n : Nat) (hs : win0_6.size k = o) (ha : win0_6.index t k = n) : win0_6.index t k * win0_6.size k = n * o := by rw [hs, ha]
  have p0 := h 0 512 _ rfl a.1
  have p1 := h 1 1024 _ rfl a.2
  refine ⟨fun hm => ?_, fun hm k => ?_⟩
  · have m0 : win0_6.index t 0 * win0_6.size 0 ≤ (i 0).val ∧ (i 0).val < win0_6.index t 0 * win0_6.size 0 + win0_6.xsize (grid0.coords t) 0 := hm 0
    have m1 : win0_6.index t 1 * win0_6.size 1 ≤ (i 1).val ∧ (i 1).val < win0_6.index t 1 * win0_6.size 1 + win0_6.xsize (grid0.coords t) 1 := hm 1
    rw [p0, e.1] at m0
    rw [p1, e.2] at m1
    omega
  · match k with
    | ⟨0, _⟩ =>
      show win0_6.index t 0 * win0_6.size 0 ≤ (i 0).val ∧ (i 0).val < win0_6.index t 0 * win0_6.size 0 + win0_6.xsize (grid0.coords t) 0
      rw [p0, e.1]; omega
    | ⟨1, _⟩ =>
      show win0_6.index t 1 * win0_6.size 1 ≤ (i 1).val ∧ (i 1).val < win0_6.index t 1 * win0_6.size 1 + win0_6.xsize (grid0.coords t) 1
      rw [p1, e.2]; omega

/-- So the array ends holding it. -/
theorem arrV : (datV m 0 c).arrAt 6 cfg0.N = G m c := by
  refine (datV m 0 c).arrAt_eq_of_cover 6 (G m c) (fun t hf => flushedV m c t hf) fun i => ?_
  have h0 : ((i : S2048x40000.Idx) 0).val < 2048 := ((i : S2048x40000.Idx) 0).isLt
  have h1 : ((i : S2048x40000.Idx) 1).val < 40000 := ((i : S2048x40000.Idx) 1).isLt
  refine ⟨⟨80 * (((i : S2048x40000.Idx) 0).val / 512) + 40 + ((i : S2048x40000.Idx) 1).val / 1024, by show _ < 320; omega⟩, ?_, ?_⟩
  · show win0_6.flush _ = true
    rw [flush6, decide_eq_true_iff]
    show 40 ≤ (80 * (((i : S2048x40000.Idx) 0).val / 512) + 40 + ((i : S2048x40000.Idx) 1).val / 1024) % 80
    omega
  · refine (mem_blk6 _ i).2 ?_
    show (512 * ((80 * (((i : S2048x40000.Idx) 0).val / 512) + 40 + ((i : S2048x40000.Idx) 1).val / 1024) / 80) ≤ ((i : S2048x40000.Idx) 0).val
      ∧ ((i : S2048x40000.Idx) 0).val < 512 * ((80 * (((i : S2048x40000.Idx) 0).val / 512) + 40 + ((i : S2048x40000.Idx) 1).val / 1024) / 80) + 512)
      ∧ 1024 * ((80 * (((i : S2048x40000.Idx) 0).val / 512) + 40 + ((i : S2048x40000.Idx) 1).val / 1024) % 80 - 40) ≤ ((i : S2048x40000.Idx) 1).val
      ∧ ((i : S2048x40000.Idx) 1).val < 1024 * ((80 * (((i : S2048x40000.Idx) 0).val / 512) + 40 + ((i : S2048x40000.Idx) 1).val / 1024) % 80 - 40) + 1024
    omega

/-! ### The launch -/

/-- The result's array: the output array with an axis of one in front. -/
def result (c : Dev nD) : Vec Ideal S1x2048x40000 .f32 := fun i => G m c (ix2 (i 1) (i 2))

set_option backward.isDefEq.respectTransparency.types false in
/-- The run of the whole program with the output followed. -/
theorem run_track : θ_run (defs (F := Ideal)) (onTc (τ := τ) (main (F := Ideal))) ⟨m, fun _ => 0, ρ⟩
    (Pipeline.FramePost cfgs (datV m) 0 (Pipeline.afterTail₀ cfgs (datV m) 0 (V0 m) [hostOps1])) :=
  Pipeline.θ_run_frame_around_track cfgs (datV m) 0 launch0 defs₀ Variants.none m ρ (main (F := Ideal))
    (obligationV m) (share_full m _ _) (fun _ _ => rfl) (V0 m) [hostOps1] sfx_sub sfx_fresh sfx_keeps
    (hmain m Variants.none) (fun _ _ => rfl) (PhiV_in m) (fun c => PhiV_out m c _)

/-- The line after the region reshapes the output array. -/
theorem tail_v11 : Pipeline.afterTail₀ cfgs (datV m) 0 (V0 m) [hostOps1] c main_v11 = result m c := by
  unfold Pipeline.afterTail₀
  simp only [hostOps1, List.flatten_cons, List.flatten_nil, List.append_nil]
  after_results_simp
  have e : Pipeline.withArrays (cfgs 0).spec c (V0 m c) (fun w => (datV m 0 c).arrAt w (cfgs 0).N) (Proc.devRef .tc main_v10) = G m c :=
    (Pipeline.withArrays_arr (cfgs 0).spec (by decide) c (V0 m c) (fun w => (datV m 0 c).arrAt w (cfgs 0).N) 6).trans (arrV m c)
  rw [e]
  funext i
  unfold result
  rw [eq_ix3 i]
  pointwise []

/-- What the kernel leaves: the result, and its arguments as they were. -/
theorem run_value : θ_run (defs (F := Ideal)) (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ⟨((h c).2 main_v11 (Pipeline.mem_restRefs_of main_v11 (by decide) (by decide))).trans (tail_v11 m c), ?_⟩) (run_track m ρ)
  exact ⟨((h c).2 main_arg0 (Pipeline.mem_restRefs_of main_arg0 (by decide) (by decide))).trans (W_main_arg0 m (datV m) c),
    ((h c).2 main_arg1 (Pipeline.mem_restRefs_of main_arg1 (by decide) (by decide))).trans (W_main_arg1 m (datV m) c),
    ((h c).2 main_arg2 (Pipeline.mem_restRefs_of main_arg2 (by decide) (by decide))).trans (W_main_arg2 m (datV m) c),
    ((h c).2 main_arg3 (Pipeline.mem_restRefs_of main_arg3 (by decide) (by decide))).trans (W_main_arg3 m (datV m) c),
    ((h c).2 main_arg4 (Pipeline.mem_restRefs_of main_arg4 (by decide) (by decide))).trans (W_main_arg4 m (datV m) c),
    ((h c).2 main_arg5 (Pipeline.mem_restRefs_of main_arg5 (by decide) (by decide))).trans (W_main_arg5 m (datV m) c),
    ((h c).2 main_arg6 (Pipeline.mem_restRefs_of main_arg6 (by decide) (by decide))).trans (W_main_arg6 m (datV m) c)⟩

end Cert.KernelIdeal.Value
-- ==== Proof.Ref.lean ====
/- What the reference computes, at an index: three softmaxes, the tails' each scaled by a probability of the head's. -/
module

public import proofs.«01_k».proof.Proof.Mats
public import proofs.«01_k».proof.Proof.Gen.ReferenceIdeal.Run

@[expose] public section

set_option maxRecDepth 16384

noncomputable section

namespace Cert.ReferenceIdeal.Value

open Idealize.ShloMosaic Idealize.ShloMosaic.TcCoe
open Cert.ReferenceIdeal.Gen
open Cert.KernelIdeal.Value (Mats matsOf)

/-- The largest of a row's first `N` logits, -/
def top (N : Nat) (l : Nat → EReal) : EReal := max ⊥ (Finset.univ.fold max ⊥ fun q : Fin N => l q)
/-- and their softmax. -/
def soft (N : Nat) (l : Nat → EReal) (k : Nat) : EReal :=
  Ideal.div (Ideal.exp (l k - top N l)) (∑ q : Fin N, Ideal.exp (l q - top N l))

/-- The row the reference computes: the head's softmax, then each tail's scaled by one of the head's last two. -/
def refRow (M : Mats) (ρ : Fin 2048) (y : Nat) : EReal :=
  if y < 20000 then soft 20002 (M.lh ρ) y
  else if y < 30000 then soft 10000 (M.l0 ρ) (y - 20000) * soft 20002 (M.lh ρ) 20000
  else soft 10000 (M.l1 ρ) (y - 30000) * soft 20002 (M.lh ρ) 20001

theorem ofBits_neg_inf : Ideal.ofBits .f32 0xFF800000#32 = (⊥ : EReal) := by
  rw [Ideal.ofBits]
  rfl

section Rows

variable {N : Nat} (hb : S1x2048x1.BroadcastsInDim ⟨3, ![1, 2048, N]⟩ (![0, 1, 2] : Fin 3 → Fin 3))
  (hr : (⟨3, ![1, 2048, N]⟩ : Shape).ReducesTo [2] S1x2048)

/-- A value per row, for every column. -/
def spread (x : FVec Ideal S1x2048 .f32) : FVec Ideal ⟨3, ![1, 2048, N]⟩ .f32 :=
  broadcastInDim ⟨3, ![1, 2048, N]⟩ ![0, 1, 2] hb (broadcastInDim S1x2048x1 ![0, 1] bcast_S1x2048_S1x2048x1_0_1 x)

/-- The exponentials of rows of logits, each less its row's largest, -/
def expRows (L : FVec Ideal ⟨3, ![1, 2048, N]⟩ .f32) : FVec Ideal ⟨3, ![1, 2048, N]⟩ .f32 :=
  Host.exp (subf L (spread hb (maximumf (broadcastInDim S1x2048 ![] bcast_S_S1x2048 (constant S_ .f32 0xFF800000#32))
    (Host.reduce FloatOps.maximumf L (constant S_ .f32 0xFF800000#32) hr h_S_))))

/-- and their softmax. -/
def softRows (L : FVec Ideal ⟨3, ![1, 2048, N]⟩ .f32) : FVec Ideal ⟨3, ![1, 2048, N]⟩ .f32 :=
  Host.divf (expRows hb hr L) (spread hb (Host.reduceAdd (expRows hb hr L) (constant S_ .f32 0x00000000#32) hr h_S_))

theorem softRows_at (L : FVec Ideal ⟨3, ![1, 2048, N]⟩ .f32) (l : Nat → EReal) (ρ : Fin 2048) (hl : ∀ q : Fin N, L (ix3 0 ρ q) = l q) (k : Fin N) :
    softRows hb hr L (ix3 0 ρ k) = soft N l k := by
  unfold softRows expRows spread soft top
  pointwise [ofBits_neg_inf, hl]

end Rows

variable (m : (ℓ : Loc nD τ sig) → Buf (Elt Ideal) ℓ) (c : Dev nD)

/-- The reference's matrices. -/
def mats : Mats :=
  matsOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

/-- Its logits. -/
def headL : FVec Ideal S1x2048x20002 .f32 :=
  Host.dotGeneral (φ₁ := .f32) (φ₂ := .f32) dot_S1x2048x1024_S1024x20002_S1x2048x20002_2_0_01_1_n_n none (m ((c : Thread nD τ).loc main_arg0) : FVec Ideal S1x2048x1024 .f32)
    (m ((c : Thread nD τ).loc main_arg2) : FVec Ideal S1024x20002 .f32)
def tail0L : FVec Ideal S1x2048x10000 .f32 :=
  Host.dotGeneral (φ₁ := .f32) (φ₂ := .f32) dot_S1x2048x256_S256x10000_S1x2048x10000_2_0_01_1_n_n none
    (Host.dotGeneral (φ₁ := .f32) (φ₂ := .f32) dot_S1x2048x1024_S1024x256_S1x2048x256_2_0_01_1_n_n none (m ((c : Thread nD τ).loc main_arg0) : FVec Ideal S1x2048x1024 .f32)
      (m ((c : Thread nD τ).loc main_arg3) : FVec Ideal S1024x256 .f32) : FVec Ideal S1x2048x256 .f32)
    (m ((c : Thread nD τ).loc main_arg4) : FVec Ideal S256x10000 .f32)
def tail1L : FVec Ideal S1x2048x10000 .f32 :=
  Host.dotGeneral (φ₁ := .f32) (φ₂ := .f32) dot_S1x2048x64_S64x10000_S1x2048x10000_2_0_01_1_n_n none
    (Host.dotGeneral (φ₁ := .f32) (φ₂ := .f32) dot_S1x2048x1024_S1024x64_S1x2048x64_2_0_01_1_n_n none (m ((c : Thread nD τ).loc main_arg0) : FVec Ideal S1x2048x1024 .f32)
      (m ((c : Thread nD τ).loc main_arg5) : FVec Ideal S1024x64 .f32) : FVec Ideal S1x2048x64 .f32)
    (m ((c : Thread nD τ).loc main_arg6) : FVec Ideal S64x10000 .f32)

theorem headL_at (ρ : Fin 2048) (q : Fin 20002) : headL m c (ix3 0 ρ q) = (mats m c).lh ρ q := by
  unfold headL mats matsOf Mats.lh
  simp only [dif_pos q.isLt]
  pointwise []
theorem tail0L_at (ρ : Fin 2048) (q : Fin 10000) : tail0L m c (ix3 0 ρ q) = (mats m c).l0 ρ q := by
  unfold tail0L mats matsOf Mats.l0 Mats.z0
  simp only [dif_pos q.isLt]
  pointwise []
theorem tail1L_at (ρ : Fin 2048) (q : Fin 10000) : tail1L m c (ix3 0 ρ q) = (mats m c).l1 ρ q := by
  unfold tail1L mats matsOf Mats.l1 Mats.z1
  simp only [dif_pos q.isLt]
  pointwise []

/-- The head's softmax and the tails'. -/
def headS := softRows bcast_S1x2048x1_S1x2048x20002_0_1_2 reducesTo_S1x2048x20002_S1x2048_d2 (headL m c)
def tail0S := softRows bcast_S1x2048x1_S1x2048x10000_0_1_2 reducesTo_S1x2048x10000_S1x2048_d2 (tail0L m c)
def tail1S := softRows bcast_S1x2048x1_S1x2048x10000_0_1_2 reducesTo_S1x2048x10000_S1x2048_d2 (tail1L m c)

theorem res_eq : res_main_v45 m c = concatenate S1x2048x40000 2
    [⟨S1x2048x20000, extractStridedSlice S1x2048x20000 ![0, 0, 0] (headS m c) slices_S1x2048x20002_S1x2048x20000_0_0_0⟩,
     ⟨S1x2048x10000, mulf (tail0S m c) (broadcastInDim S1x2048x10000 ![0, 1, 2] bcast_S1x2048x1_S1x2048x10000_0_1_2
        (extractStridedSlice S1x2048x1 ![0, 0, 20000] (headS m c) slices_S1x2048x20002_S1x2048x1_0_0_20000))⟩,
     ⟨S1x2048x10000, mulf (tail1S m c) (broadcastInDim S1x2048x10000 ![0, 1, 2] bcast_S1x2048x1_S1x2048x10000_0_1_2
        (extractStridedSlice S1x2048x1 ![0, 0, 20001] (headS m c) slices_S1x2048x20002_S1x2048x1_0_0_20001))⟩]
    concatenates_S1x2048x20000_S1x2048x10000_S1x2048x10000_S1x2048x40000_d2 := rfl

theorem headS_at (ρ : Fin 2048) (k : Fin 20002) : headS m c (ix3 0 ρ k) = soft 20002 ((mats m c).lh ρ) k :=
  softRows_at _ _ _ _ _ (headL_at m c ρ) k
theorem tail0S_at (ρ : Fin 2048) (k : Fin 10000) : tail0S m c (ix3 0 ρ k) = soft 10000 ((mats m c).l0 ρ) k :=
  softRows_at _ _ _ _ _ (tail0L_at m c ρ) k
theorem tail1S_at (ρ : Fin 2048) (k : Fin 10000) : tail1S m c (ix3 0 ρ k) = soft 10000 ((mats m c).l1 ρ) k :=
  softRows_at _ _ _ _ _ (tail1L_at m c ρ) k

/-- The reference's result, at an index. -/
theorem res_at (ρ : Fin 2048) (y : Fin 40000) : res_main_v45 m c (ix3 0 ρ y) = refRow (mats m c) ρ y := by
  rw [res_eq]
  pointwise []
  unfold refRow
  by_cases h : y.val < 20000
  · rw [dif_pos h, if_pos h]
    exact headS_at m c ρ ⟨y, by omega⟩
  by_cases h' : y.val < 30000
  · rw [dif_neg h, dif_pos (by omega), if_neg h, if_pos h']
    exact congrArg₂ (· * ·) (tail0S_at m c ρ ⟨y - 20000, by omega⟩) (headS_at m c ρ 20000)
  · rw [dif_neg h, dif_neg (by omega), if_neg h, if_neg h']
    have e : y.val - 20000 - 10000 = y.val - 30000 := by omega
    exact congrArg₂ (· * ·) ((tail1S_at m c ρ ⟨y - 20000 - 10000, by omega⟩).trans (by rw [← e])) (headS_at m c ρ 20001)

end Cert.ReferenceIdeal.Value
-- ==== Proof.Equation.lean ====
/- The equation between the two programs, for matrices of real numbers: a softmax does not change when every logit of the row
   is lowered by the same amount, and a padded column adds exactly one to a sum of exponentials. -/
module

public import proofs.«01_k».proof.Proof.Inv
public import proofs.«01_k».proof.Proof.Ref

@[expose] public section

set_option maxRecDepth 16384

noncomputable section

namespace Cert.Equation

open Idealize.ShloMosaic
open Cert.KernelIdeal.Pay (lanes)
open Cert.KernelIdeal.Value (Mats part den fac0 fac1 fac2 res lo hi)
open Cert.ReferenceIdeal.Value (top soft refRow)

/-! ### Sums of real numbers among the extended ones -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem real_dot {n : Nat} {f g : Fin n → EReal} (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  rw [← coe_sum]
  exact Finset.sum_congr rfl fun k _ => by rw [ha, hb, EReal.coe_mul]

/-! ### The reference's softmax -/

/-- The largest of finitely many reals, at least one, is a real. -/
theorem top_real {N : Nat} (hN : 0 < N) {l : Nat → EReal} (hl : ∀ q : Fin N, ∃ r : ℝ, l q = r) : ∃ r : ℝ, top N l = r := by
  choose a ha using hl
  have h1 : top N l ≠ ⊤ := by
    unfold top
    have : (Finset.univ.fold max ⊥ fun q : Fin N => l q) < ⊤ := (Finset.fold_max_lt _).2 ⟨bot_lt_top, fun q _ => by rw [ha]; exact EReal.coe_lt_top _⟩
    exact (max_lt bot_lt_top this).ne
  have h2 : top N l ≠ ⊥ := by
    unfold top
    have : (⊥ : EReal) < Finset.univ.fold max ⊥ fun q : Fin N => l q :=
      (Finset.lt_fold_max _).2 (Or.inr ⟨⟨0, hN⟩, Finset.mem_univ _, by rw [ha]; exact EReal.bot_lt_coe _⟩)
    exact (lt_max_of_lt_right this).ne'
  exact ⟨(top N l).toReal, (EReal.coe_toReal h1 h2).symm⟩

theorem soft_eq {N : Nat} {l : Nat → EReal} {a : Nat → ℝ} (ha : ∀ q, l q = a q) {k : Nat} (hk : k < N) :
    soft N l k = ((Real.exp (a k) / ∑ q : Fin N, Real.exp (a q) : ℝ) : EReal) := by
  obtain ⟨t, ht⟩ := top_real (Nat.lt_of_le_of_lt (Nat.zero_le _) hk) (l := l) fun q : Fin N => ⟨a q, ha q⟩
  have he (q : Nat) : Ideal.exp (l q - top N l) = ((Real.exp (a q) * (Real.exp t)⁻¹ : ℝ) : EReal) := by
    rw [ht, ha, ← EReal.coe_sub, Ideal.exp_coe, Real.exp_sub, div_eq_mul_inv]
  haveI : Nonempty (Fin N) := ⟨⟨k, hk⟩⟩
  have hp : 0 < ∑ q : Fin N, Real.exp (a q) := Finset.sum_pos (fun q _ => Real.exp_pos _) Finset.univ_nonempty
  have ht' := Real.exp_pos t
  unfold soft
  simp only [he]
  rw [coe_sum, ← Finset.sum_mul, Ideal.div_coe (mul_pos hp (inv_pos.2 ht')).ne', ← EReal.coe_mul]
  congr 1
  field_simp

/-! ### The kernel's denominators -/

/-- The lanes together are every column of a tile. -/
theorem sum_lanes (f : Nat → EReal) : ∑ l : Fin 128, lanes (fun c => f c) l = ∑ c ∈ Finset.range 1024, f c := by
  unfold lanes
  rw [Finset.sum_comm, ← Finset.sum_product', ← Fin.sum_univ_eq_sum_range]
  refine Fintype.sum_equiv (finProdFinEquiv : Fin 8 × Fin 128 ≃ Fin 1024) _ _ fun x => ?_
  show f (128 * x.1.val + x.2.val) = f (finProdFinEquiv x).val
  rw [finProdFinEquiv_apply_val, add_comm]

/-- So a part's lanes together are every column of the part. -/
theorem sum_part (ex : Nat → EReal) (g : Fin 3) : ∑ l : Fin 128, part ex 40 g l = ∑ y ∈ Finset.Ico (1024 * lo g) (1024 * hi g), ex y := by
  have hg : lo g ≤ hi g ∧ hi g ≤ 40 := by fin_cases g <;> decide
  unfold part
  rw [min_eq_right hg.2, Finset.sum_comm]
  generalize hi g = q at hg ⊢
  replace hg := hg.1
  induction q, hg using Nat.le_induction with
  | base => simp
  | succ q hq ih =>
    rw [Finset.sum_Ico_succ_top hq, ih, sum_lanes (fun c => ex (1024 * q + c)), ← Finset.sum_Ico_consecutive ex (show 1024 * lo g ≤ 1024 * q by omega) (show 1024 * q ≤ 1024 * (q + 1) by omega),
      Finset.sum_Ico_eq_sum_range ex (1024 * q), show 1024 * (q + 1) - 1024 * q = 1024 from by omega]

/-- A denominator: `n` real columns, then `p` padded ones whose exponential is one. -/
theorem den_eq (ex : Nat → EReal) (g : Fin 3) (o n p : Nat) (hlo : 1024 * lo g = o) (hhi : 1024 * hi g = o + n + p) (a : Nat → ℝ)
    (ha : ∀ q, q < n + p → ex (o + q) = ((Real.exp (a q) : ℝ) : EReal)) (hp : ∀ q, n ≤ q → q < n + p → a q = 0) :
    den ex g p = ((∑ q : Fin n, Real.exp (a q) : ℝ) : EReal) := by
  unfold den
  rw [sum_part, hlo, hhi, Finset.sum_Ico_eq_sum_range, show o + n + p - o = n + p from by omega,
    Finset.sum_congr rfl fun q hq => ha q (Finset.mem_range.1 hq), coe_sum, Finset.sum_range_add, ← EReal.coe_sub,
    Finset.sum_congr rfl fun q hq => (show Real.exp (a (n + q)) = 1 from by
      rw [hp _ (by omega) (by have := Finset.mem_range.1 hq; omega), Real.exp_zero]),
    Finset.sum_const, Finset.card_range, nsmul_eq_mul, mul_one, add_sub_cancel_right, Fin.sum_univ_eq_sum_range (fun q => Real.exp (a q)) n]

/-! ### The equation -/

/-- Matrices of real numbers, padded by zero. -/
structure Ok (M : Mats) : Prop where
  x : ∀ ρ k, ∃ r : ℝ, M.x ρ k = r
  wh : ∀ k y, ∃ r : ℝ, M.wh k y = r
  p0 : ∀ k l, ∃ r : ℝ, M.p0 k l = r
  w0 : ∀ k y, ∃ r : ℝ, M.w0 k y = r
  p1 : ∀ k l, ∃ r : ℝ, M.p1 k l = r
  w1 : ∀ k y, ∃ r : ℝ, M.w1 k y = r
  zh : ∀ k y, 20002 ≤ y → M.wh k y = 0
  z0 : ∀ k y, 10000 ≤ y → M.w0 k y = 0
  z1 : ∀ k y, 10000 ≤ y → M.w1 k y = 0

/-- A row of real logits whose padded ones are zero. -/
theorem logits {n : Nat} {f : Fin n → EReal} {w : Fin n → Nat → EReal} (N : Nat) (hf : ∀ k, ∃ r : ℝ, f k = r) (hw : ∀ k y, ∃ r : ℝ, w k y = r)
    (hz : ∀ k y, N ≤ y → w k y = 0) : ∃ a : Nat → ℝ, (∀ y, ∑ k, f k * w k y = a y) ∧ ∀ y, N ≤ y → a y = 0 := by
  choose a ha using fun y => real_dot hf fun k => hw k y
  refine ⟨a, ha, fun y hy => ?_⟩
  have h := ha y
  rw [Finset.sum_eq_zero fun k _ => by rw [hz k y hy, mul_zero]] at h
  exact_mod_cast h.symm

theorem res_eq_refRow {M : Mats} (hM : Ok M) (ρ : Fin 2048) (y : Nat) (hy : y < 40000) : res (M.ex ρ) y = refRow M ρ y := by
  obtain ⟨a, ha, za⟩ := logits 20002 (hM.x ρ) hM.wh hM.zh
  obtain ⟨b, hb, zb⟩ := logits 10000 (fun l => real_dot (hM.x ρ) fun k => hM.p0 k l) hM.w0 hM.z0
  obtain ⟨d, hd, zd⟩ := logits 10000 (fun l => real_dot (hM.x ρ) fun k => hM.p1 k l) hM.w1 hM.z1
  have ea (q : Nat) (hq : q < 20002 + 478) : M.ex ρ q = ((Real.exp (a q) : ℝ) : EReal) := by
    unfold Mats.ex Mats.lh
    rw [if_pos (by omega), ha, Ideal.exp_coe]
  have eb (q : Nat) (hq : q < 10000 + 240) : M.ex ρ (20480 + q) = ((Real.exp (b q) : ℝ) : EReal) := by
    unfold Mats.ex Mats.l0 Mats.z0
    rw [if_neg (by omega), if_pos (by omega), show 20480 + q - 20480 = q from by omega, hb, Ideal.exp_coe]
  have ed (q : Nat) (hq : q < 10000 + 240) : M.ex ρ (30720 + q) = ((Real.exp (d q) : ℝ) : EReal) := by
    unfold Mats.ex Mats.l1 Mats.z1
    rw [if_neg (by omega), if_neg (by omega), show 30720 + q - 30720 = q from by omega, hd, Ideal.exp_coe]
  have na := den_eq (M.ex ρ) 0 0 20002 478 rfl rfl a (fun q hq => by rw [zero_add]; exact ea q hq) fun q h _ => za q h
  have nb := den_eq (M.ex ρ) 1 20480 10000 240 rfl rfl b eb fun q h _ => zb q h
  have nd := den_eq (M.ex ρ) 2 30720 10000 240 rfl rfl d ed fun q h _ => zd q h
  push_cast at na nb nd
  have pos (n : Nat) (hn : 0 < n) (f : Nat → ℝ) : (∑ q : Fin n, Real.exp (f q)) ≠ 0 := by
    haveI : Nonempty (Fin n) := ⟨⟨0, hn⟩⟩
    exact (Finset.sum_pos (fun q _ => Real.exp_pos _) Finset.univ_nonempty).ne'
  have pa := pos 20002 (by decide) a
  have pb := pos 10000 (by decide) b
  have pd := pos 10000 (by decide) d
  have sa {k : Nat} (hk : k < 20002) : soft 20002 (M.lh ρ) k = _ := soft_eq ha hk
  have sb {k : Nat} (hk : k < 10000) : soft 10000 (M.l0 ρ) k = _ := soft_eq hb hk
  have sd {k : Nat} (hk : k < 10000) : soft 10000 (M.l1 ρ) k = _ := soft_eq hd hk
  have quot (u v : ℝ) (hv : v ≠ 0) : Ideal.div (u : EReal) (v : EReal) = ((u / v : ℝ) : EReal) := by
    rw [Ideal.div_coe hv, ← EReal.coe_mul, mul_one_div]
  unfold res refRow fac0 fac1 fac2
  split_ifs with h0 h1
  · rw [ea y (by omega), na, sa (by omega), ← EReal.coe_one, quot _ _ pa, ← EReal.coe_mul, mul_one_div]
  · rw [show y + 480 = 20480 + (y - 20000) from by omega, eb _ (by omega), ea 20000 (by omega), na, nb, sb (by omega), sa (by omega),
      ← EReal.coe_mul, quot _ _ (mul_ne_zero pa pb), ← EReal.coe_mul, ← EReal.coe_mul]
    congr 1
    field_simp
  · rw [show y + 720 = 30720 + (y - 30000) from by omega, ed _ (by omega), ea 20001 (by omega), na, nd, sd (by omega), sa (by omega),
      ← EReal.coe_mul, quot _ _ (mul_ne_zero pa pd), ← EReal.coe_mul, ← EReal.coe_mul]
    congr 1
    field_simp

end Cert.Equation
-- ==== Proof.Finite.lean ====
/- What the precondition says: every entry of the six arrays the result is computed from is a real number. So the matrices are
   real, and beyond their last column zero. -/
module

public import proofs.«01_k».proof.Defs
public import proofs.«01_k».proof.Proof.Equation

@[expose] public section

set_option maxRecDepth 16384

noncomputable section

namespace Cert.Equation

open Idealize.ShloMosaic
open Cert.KernelIdeal.Value (Mats matsOf mats)

/-- The single bit pattern the predicate compares with is infinity. -/
theorem ofBits_inf : (Ideal.ofBits .f32 0x7F800000#32 : EReal) = ⊤ := by
  simp [Ideal.ofBits, Ideal.ieee]

/-- An extended real whose absolute value is below infinity is real. -/
theorem real_of_abs_lt {x : EReal} (h : max x (-x) < ⊤) : ∃ r : ℝ, x = r := by
  refine ⟨x.toReal, (EReal.coe_toReal ?_ ?_).symm⟩
  · rintro rfl
    simp at h
  · rintro rfl
    simp at h

/-- An array whose mask is all ones holds real numbers. -/
theorem real_of_mask {s : Shape} (x : FVec Ideal s .f32) {u : Shape} {d : Fin u.rank → Fin s.rank} (hb : u.BroadcastsInDim s d)
    (h : cmpf .olt (Host.absf x) (broadcastInDim s d hb (constant u .f32 0x7F800000#32 : FVec Ideal u .f32)) = fun _ => 1#1) (i : s.Idx) :
    ∃ r : ℝ, (x i : EReal) = r := by
  have hi := congrFun h i
  change Ideal.cmp .olt (max (x i : EReal) (-(x i : EReal))) (Ideal.ofBits .f32 0x7F800000#32 : EReal) = 1#1 at hi
  rw [ofBits_inf] at hi
  refine real_of_abs_lt ?_
  by_contra hn
  simp [Ideal.cmp, hn] at hi

variable [hf : Cert.Pre_finite.Facts]

theorem ok_mats (m : (ℓ : Loc Cert.KernelIdeal.nD Cert.KernelIdeal.τ Cert.KernelIdeal.sig) → Buf (Elt Ideal) ℓ) (h : Cert.Pre_KernelIdeal_finite m)
    (c : Dev Cert.KernelIdeal.nD) : Ok (mats m c) := by
  obtain ⟨h0, h2, h3, h4, h5, h6⟩ := h c
  have cut {n N : Nat} {w : (⟨2, ![n, N]⟩ : Shape).Idx → EReal} (hw : ∀ i, ∃ r : ℝ, w i = r) (k : Fin n) (y : Nat) :
      ∃ r : ℝ, (if hy : y < N then w (ix2 k ⟨y, hy⟩) else 0) = (r : EReal) := by
    split_ifs
    · exact hw _
    · exact ⟨0, EReal.coe_zero.symm⟩
  exact {
    x := fun ρ k => real_of_mask _ Cert.Pre_finite.Facts.bcast_S_S1x2048x1024 h0 (ix3 0 ρ k)
    wh := cut (real_of_mask _ Cert.Pre_finite.Facts.bcast_S_S1024x20002 h2)
    p0 := fun k l => real_of_mask _ Cert.Pre_finite.Facts.bcast_S_S1024x256 h3 (ix2 k l)
    w0 := cut (real_of_mask _ Cert.Pre_finite.Facts.bcast_S_S256x10000 h4)
    p1 := fun k l => real_of_mask _ Cert.Pre_finite.Facts.bcast_S_S1024x64 h5 (ix2 k l)
    w1 := cut (real_of_mask _ Cert.Pre_finite.Facts.bcast_S_S64x10000 h6)
    zh := fun k y hy => dif_neg (Nat.not_lt.2 hy)
    z0 := fun k y hy => dif_neg (Nat.not_lt.2 hy)
    z1 := fun k y hy => dif_neg (Nat.not_lt.2 hy) }

end Cert.Equation
-- ==== Proof.lean ====
/- The certificate: each claim of proof/Defs.lean from the modules under proof/Proof/. -/
module

public import proofs.«01_k».proof.Defs
public import proofs.«01_k».proof.Proof.Frame
public import proofs.«01_k».proof.Proof.Same
public import proofs.«01_k».proof.Proof.Launch
public import proofs.«01_k».proof.Proof.Finite
public import proofs.«01_k».proof.Proof.Gen.ReferenceIdeal.Run
public import proofs.«01_k».proof.Proof.Gen.Kernel
public import proofs.«01_k».proof.Proof.Gen.ReferenceIdeal

@[expose] public section

noncomputable section

namespace Cert.Proof

open Idealize.ShloMosaic Idealize.SL.Sem

/-- The predicate's six arrays are spread from a number, which any shape admits. -/
theorem facts_finite : Cert.Pre_finite.Facts where
  bcast_S_S1x2048x1024 := by decide
  bcast_S_S1024x20002 := by decide
  bcast_S_S1024x256 := by decide
  bcast_S_S256x10000 := by decide
  bcast_S_S1024x64 := by decide
  bcast_S_S64x10000 := by decide

/-- The frames: each program ends with its arguments unchanged and its semaphores at zero. -/
theorem frame_PI : Cert.quiescent_KernelIdeal := fun m g _ => Cert.KernelIdeal.Body.frame m g
theorem frame_P : Cert.quiescent_Kernel := fun m g _ =>
  Cert.Same.run_kernel _ _ (Cert.KernelIdeal.Body.frame (F := Bits) m g)

theorem frame_RI : Cert.quiescent_ReferenceIdeal := fun m g _ =>
  (θ_run _ _ _).mono (fun r h => ⟨fun c => (h c).2, Idealize.ShloMosaic.sem_eq_zero_of_no_sems (by decide) r.2⟩) (Cert.ReferenceIdeal.Value.run m g)

/-- From the same real arguments the two results are one array. -/
theorem result_eq [Cert.Pre_finite.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : Cert.Pre_KernelIdeal_finite m) (h : Cert.ReferenceIdeal.Value.mats m' c = Cert.KernelIdeal.Value.mats m c) :
    Cert.ReferenceIdeal.Value.res_main_v45 m' c = Cert.KernelIdeal.Value.result m c := by
  funext i
  obtain ⟨z, ρ, y, rfl⟩ : ∃ (z : Fin 1) (ρ : Fin 2048) (y : Fin 40000), i = ix3 z ρ y := ⟨i 0, i 1, i 2, eq_ix3 i⟩
  obtain rfl : z = 0 := Subsingleton.elim _ _
  exact (Cert.ReferenceIdeal.Value.res_at m' c ρ y).trans
    (h ▸ (Cert.Equation.res_eq_refRow (Cert.Equation.ok_mats m hm c) ρ y y.isLt).symm)

/-- From the same real arguments both programs run and end with that array. -/
theorem algebraic [Cert.Pre_finite.Facts] :
    Cert.algebraic_KernelIdeal_ReferenceIdeal_pre_finite (hKernelIdeal := Cert.KernelIdeal.Gen.facts) (hReferenceIdeal := Cert.ReferenceIdeal.Gen.facts) := by
  intro m g m' g' hm h
  refine ⟨Cert.KernelIdeal.Value.result m, Cert.KernelIdeal.Value.run_value m g,
    (θ_run _ _ _).mono (fun r hr c => ⟨(hr c).1.trans (result_eq m m' c hm ?_), (hr c).2⟩) (Cert.ReferenceIdeal.Value.run m' g')⟩
  obtain ⟨h0, -, h2, h3, h4, h5, h6⟩ := h c
  unfold Cert.ReferenceIdeal.Value.mats Cert.KernelIdeal.Value.mats
  rw [h0, h2, h3, h4, h5, h6]

theorem claim : Cert.Claim :=
  ⟨Cert.Kernel.Gen.facts, Cert.KernelIdeal.Gen.facts, Cert.ReferenceIdeal.Gen.facts, facts_finite, frame_P, frame_PI, fun m g _ => frame_PI m g trivial, frame_RI,
    fun m g _ => frame_RI m g trivial, trivial, @algebraic facts_finite⟩

end Cert.Proof

end
